-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "th1" .f32 0x3EB2B8C2#32 (((1 / 9) * Real.pi : ℝ) : EReal)
  ∧ IdealRules.named_const.Statement Cert.KernelIdeal.κ "th2" .f32 0x3F32B8C2#32 (((2 / 9) * Real.pi : ℝ) : EReal)
  ∧ IdealRules.named_const.Statement Cert.KernelIdeal.κ "th3" .f32 0x3F860A92#32 (((1 / 3) * Real.pi : ℝ) : EReal)
  ∧ IdealRules.named_const.Statement Cert.KernelIdeal.κ "th4" .f32 0x3FB2B8C2#32 (((4 / 9) * Real.pi : ℝ) : EReal)
  ∧ IdealRules.named_const.Statement Cert.KernelIdeal.κ "th5" .f32 0x3FDF66F3#32 (((5 / 9) * Real.pi : ℝ) : EReal)
  ∧ IdealRules.named_const.Statement Cert.KernelIdeal.κ "th6" .f32 0x40060A92#32 (((2 / 3) * Real.pi : ℝ) : EReal)
  ∧ IdealRules.named_const.Statement Cert.KernelIdeal.κ "th7" .f32 0x401C61AA#32 (((7 / 9) * Real.pi : ℝ) : EReal)
  ∧ IdealRules.named_const.Statement Cert.KernelIdeal.κ "th8" .f32 0x4032B8C2#32 (((8 / 9) * Real.pi : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x512x512 : Shape := ⟨4, ![32, 1, 512, 512]⟩
abbrev S32x512x512 : Shape := ⟨3, ![32, 512, 512]⟩
abbrev S576x576 : Shape := ⟨2, ![576, 576]⟩
abbrev S_ : Shape := ⟨0, ![]⟩
abbrev S81x81 : Shape := ⟨2, ![81, 81]⟩
abbrev S32x62x62x81 : Shape := ⟨4, ![32, 62, 62, 81]⟩
abbrev S2x512x512 : Shape := ⟨3, ![2, 512, 512]⟩
abbrev S2x62x62x81 : Shape := ⟨4, ![2, 62, 62, 81]⟩
abbrev S1x512x512 : Shape := ⟨3, ![1, 512, 512]⟩
abbrev S512x512 : Shape := ⟨2, ![512, 512]⟩
abbrev S1x512 : Shape := ⟨2, ![1, 512]⟩
abbrev S512x1 : Shape := ⟨2, ![512, 1]⟩
abbrev S511x512 : Shape := ⟨2, ![511, 512]⟩
abbrev S512x511 : Shape := ⟨2, ![512, 511]⟩
abbrev S512x64 : Shape := ⟨2, ![512, 64]⟩
abbrev S1x1 : Shape := ⟨2, ![1, 1]⟩
abbrev S64x8x64 : Shape := ⟨3, ![64, 8, 64]⟩
abbrev S64x64 : Shape := ⟨2, ![64, 64]⟩
abbrev S62x62 : Shape := ⟨2, ![62, 62]⟩
abbrev S576x64 : Shape := ⟨2, ![576, 64]⟩
abbrev S64x576 : Shape := ⟨2, ![64, 576]⟩
abbrev S2x576 : Shape := ⟨2, ![2, 576]⟩
abbrev S63x576 : Shape := ⟨2, ![63, 576]⟩
abbrev S1x576 : Shape := ⟨2, ![1, 576]⟩
abbrev S62x576 : Shape := ⟨2, ![62, 576]⟩
abbrev S62x27 : Shape := ⟨2, ![62, 27]⟩
abbrev S62x81 : Shape := ⟨2, ![62, 81]⟩
abbrev S62x1 : Shape := ⟨2, ![62, 1]⟩
abbrev S1x1x62x81 : Shape := ⟨4, ![1, 1, 62, 81]⟩

abbrev nBuf : Space → Nat
  | .hbm => 63
  | .vmem => 6
  | .smem => 0
  | _ => 0

abbrev bufTy : (tb : Table) → Fin (tcTables nBuf tb) → BufTy
  | .hbm, ⟨0, _⟩ => ⟨S32x1x512x512, .f32⟩
  | .hbm, ⟨1, _⟩ => ⟨S32x512x512, .f32⟩
  | .hbm, ⟨2, _⟩ => ⟨S576x576, .i32⟩
  | .hbm, ⟨3, _⟩ => ⟨S576x576, .i32⟩
  | .hbm, ⟨4, _⟩ => ⟨S_, .i32⟩
  | .hbm, ⟨5, _⟩ => ⟨S576x576, .i32⟩
  | .hbm, ⟨6, _⟩ => ⟨S576x576, .i32⟩
  | .hbm, ⟨7, _⟩ => ⟨S_, .i32⟩
  | .hbm, ⟨8, _⟩ => ⟨S576x576, .i32⟩
  | .hbm, ⟨9, _⟩ => ⟨S576x576, .i32⟩
  | .hbm, ⟨10, _⟩ => ⟨S576x576, .i1⟩
  | .hbm, ⟨11, _⟩ => ⟨S_, .i32⟩
  | .hbm, ⟨12, _⟩ => ⟨S576x576, .i32⟩
  | .hbm, ⟨13, _⟩ => ⟨S576x576, .i32⟩
  | .hbm, ⟨14, _⟩ => ⟨S_, .i32⟩
  | .hbm, ⟨15, _⟩ => ⟨S576x576, .i32⟩
  | .hbm, ⟨16, _⟩ => ⟨S576x576, .i32⟩
  | .hbm, ⟨17, _⟩ => ⟨S576x576, .i1⟩
  | .hbm, ⟨18, _⟩ => ⟨S576x576, .i1⟩
  | .hbm, ⟨19, _⟩ => ⟨S_, .f32⟩
  | .hbm, ⟨20, _⟩ => ⟨S_, .f32⟩
  | .hbm, ⟨21, _⟩ => ⟨S576x576, .f32⟩
  | .hbm, ⟨22, _⟩ => ⟨S576x576, .f32⟩
  | .hbm, ⟨23, _⟩ => ⟨S576x576, .f32⟩
  | .hbm, ⟨24, _⟩ => ⟨S576x576, .bf16⟩
  | .hbm, ⟨25, _⟩ => ⟨S81x81, .i32⟩
  | .hbm, ⟨26, _⟩ => ⟨S81x81, .i32⟩
  | .hbm, ⟨27, _⟩ => ⟨S_, .i32⟩
  | .hbm, ⟨28, _⟩ => ⟨S81x81, .i32⟩
  | .hbm, ⟨29, _⟩ => ⟨S81x81, .i32⟩
  | .hbm, ⟨30, _⟩ => ⟨S_, .i32⟩
  | .hbm, ⟨31, _⟩ => ⟨S81x81, .i32⟩
  | .hbm, ⟨32, _⟩ => ⟨S81x81, .i32⟩
  | .hbm, ⟨33, _⟩ => ⟨S_, .i32⟩
  | .hbm, ⟨34, _⟩ => ⟨S81x81, .i32⟩
  | .hbm, ⟨35, _⟩ => ⟨S81x81, .i32⟩
  | .hbm, ⟨36, _⟩ => ⟨S81x81, .i1⟩
  | .hbm, ⟨37, _⟩ => ⟨S_, .i32⟩
  | .hbm, ⟨38, _⟩ => ⟨S81x81, .i32⟩
  | .hbm, ⟨39, _⟩ => ⟨S81x81, .i32⟩
  | .hbm, ⟨40, _⟩ => ⟨S_, .i32⟩
  | .hbm, ⟨41, _⟩ => ⟨S81x81, .i32⟩
  | .hbm, ⟨42, _⟩ => ⟨S81x81, .i32⟩
  | .hbm, ⟨43, _⟩ => ⟨S_, .i32⟩
  | .hbm, ⟨44, _⟩ => ⟨S81x81, .i32⟩
  | .hbm, ⟨45, _⟩ => ⟨S81x81, .i32⟩
  | .hbm, ⟨46, _⟩ => ⟨S81x81, .i1⟩
  | .hbm, ⟨47, _⟩ => ⟨S81x81, .i1⟩
  | .hbm, ⟨48, _⟩ => ⟨S_, .i32⟩
  | .hbm, ⟨49, _⟩ => ⟨S81x81, .i32⟩
  | .hbm, ⟨50, _⟩ => ⟨S81x81, .i32⟩
  | .hbm, ⟨51, _⟩ => ⟨S_, .i32⟩
  | .hbm, ⟨52, _⟩ => ⟨S81x81, .i32⟩
  | .hbm, ⟨53, _⟩ => ⟨S81x81, .i32⟩
  | .hbm, ⟨54, _⟩ => ⟨S81x81, .i1⟩
  | .hbm, ⟨55, _⟩ => ⟨S81x81, .i1⟩
  | .hbm, ⟨56, _⟩ => ⟨S_, .f32⟩
  | .hbm, ⟨57, _⟩ => ⟨S_, .f32⟩
  | .hbm, ⟨58, _⟩ => ⟨S81x81, .f32⟩
  | .hbm, ⟨59, _⟩ => ⟨S81x81, .f32⟩
  | .hbm, ⟨60, _⟩ => ⟨S81x81, .f32⟩
  | .hbm, ⟨61, _⟩ => ⟨S81x81, .bf16⟩
  | .hbm, ⟨62, _⟩ => ⟨S32x62x62x81, .f32⟩
  | .local _ .vmem, ⟨0, _⟩ => ⟨S2x512x512, .f32⟩
  | .local _ .vmem, ⟨1, _⟩ => ⟨S2x512x512, .f32⟩
  | .local _ .vmem, ⟨2, _⟩ => ⟨S576x576, .bf16⟩
  | .local _ .vmem, ⟨3, _⟩ => ⟨S81x81, .bf16⟩
  | .local _ .vmem, ⟨4, _⟩ => ⟨S2x62x62x81, .f32⟩
  | .local _ .vmem, ⟨5, _⟩ => ⟨S2x62x62x81, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_10 : Ref sig .tc := ⟨.hbm, 48, rfl⟩
abbrev main_v33 : Ref sig .tc := ⟨.hbm, 49, rfl⟩
abbrev main_v34 : Ref sig .tc := ⟨.hbm, 50, rfl⟩
abbrev main_c_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_cst_13 : Ref sig .tc := ⟨.hbm, 57, rfl⟩
abbrev main_call1_v0 : Ref sig .tc := ⟨.hbm, 58, rfl⟩
abbrev main_call1_v1 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S81x81 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x62x62x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "th1" => some (((1 / 9) * Real.pi : ℝ) : EReal)
  | "th2" => some (((2 / 9) * Real.pi : ℝ) : EReal)
  | "th3" => some (((1 / 3) * Real.pi : ℝ) : EReal)
  | "th4" => some (((4 / 9) * Real.pi : ℝ) : EReal)
  | "th5" => some (((5 / 9) * Real.pi : ℝ) : EReal)
  | "th6" => some (((2 / 3) * Real.pi : ℝ) : EReal)
  | "th7" => some (((7 / 9) * Real.pi : ℝ) : EReal)
  | "th8" => some (((8 / 9) * Real.pi : ℝ) : EReal)
  | _ => none
-- ==== ReferenceIdeal.lean ====
abbrev S32x1x512x512 : Shape := ⟨4, ![32, 1, 512, 512]⟩
abbrev S32x512x512 : Shape := ⟨3, ![32, 512, 512]⟩
abbrev S_ : Shape := ⟨0, ![]⟩
abbrev S32x1x512 : Shape := ⟨3, ![32, 1, 512]⟩
abbrev S32x510x512 : Shape := ⟨3, ![32, 510, 512]⟩
abbrev S32x512x1 : Shape := ⟨3, ![32, 512, 1]⟩
abbrev S32x512x510 : Shape := ⟨3, ![32, 512, 510]⟩
abbrev S512 : Shape := ⟨1, ![512]⟩
abbrev S32 : Shape := ⟨1, ![32]⟩
abbrev S32x1x1 : Shape := ⟨3, ![32, 1, 1]⟩
abbrev S1x512x1 : Shape := ⟨3, ![1, 512, 1]⟩
abbrev S1x1x512 : Shape := ⟨3, ![1, 1, 512]⟩
abbrev S8388608 : Shape := ⟨1, ![8388608]⟩
abbrev S1179648 : Shape := ⟨1, ![1179648]⟩
abbrev S8388608x1 : Shape := ⟨2, ![8388608, 1]⟩
abbrev S32x64x64x9 : Shape := ⟨4, ![32, 64, 64, 9]⟩
abbrev S32x62x62x9 : Shape := ⟨4, ![32, 62, 62, 9]⟩
abbrev S32x62x62x1x9 : Shape := ⟨5, ![32, 62, 62, 1, 9]⟩
abbrev S32x62x62x3x9 : Shape := ⟨5, ![32, 62, 62, 3, 9]⟩
abbrev S32x62x62x1x3x9 : Shape := ⟨6, ![32, 62, 62, 1, 3, 9]⟩
abbrev S32x62x62x3x3x9 : Shape := ⟨6, ![32, 62, 62, 3, 3, 9]⟩
abbrev S32x62x62 : Shape := ⟨3, ![32, 62, 62]⟩
abbrev S32x62x62x1x1x1 : Shape := ⟨6, ![32, 62, 62, 1, 1, 1]⟩
abbrev S32x62x62x81 : Shape := ⟨4, ![32, 62, 62, 81]⟩

abbrev nBuf : Space → Nat
  | .hbm => 162
  | .vmem => 0
  | .smem => 0
  | _ => 0

abbrev hbmTy0_0 (i : Nat) : BufTy := match i % 128 with
  | 0 => ⟨S32x1x512x512, .f32⟩
  | 1 => ⟨S32x512x512, .f32⟩
  | 2 => ⟨S32x512x512, .f32⟩
  | 3 => ⟨S_, .f32⟩
  | 4 => ⟨S32x1x512, .f32⟩
  | 5 => ⟨S32x510x512, .f32⟩
  | 6 => ⟨S32x510x512, .f32⟩
  | 7 => ⟨S32x510x512, .f32⟩
  | 8 => ⟨S32x512x512, .f32⟩
  | 9 => ⟨S_, .f32⟩
  | 10 => ⟨S32x512x1, .f32⟩
  | 11 => ⟨S32x512x510, .f32⟩
  | 12 => ⟨S32x512x510, .f32⟩
  | 13 => ⟨S32x512x510, .f32⟩
  | 14 => ⟨S32x512x512, .f32⟩
  | 15 => ⟨S32x512x512, .f32⟩
  | 16 => ⟨S32x512x512, .f32⟩
  | 17 => ⟨S32x512x512, .f32⟩
  | 18 => ⟨S32x512x512, .f32⟩
  | 19 => ⟨S_, .f32⟩
  | 20 => ⟨S_, .f32⟩
  | 21 => ⟨S32x512x512, .f32⟩
  | 22 => ⟨S_, .f32⟩
  | 23 => ⟨S_, .f32⟩
  | 24 => ⟨S_, .f32⟩
  | 25 => ⟨S32x512x512, .f32⟩
  | 26 => ⟨S32x512x512, .f32⟩
  | 27 => ⟨S_, .f32⟩
  | 28 => ⟨S_, .f32⟩
  | 29 => ⟨S32x512x512, .f32⟩
  | 30 => ⟨S32x512x512, .f32⟩
  | 31 => ⟨S_, .f32⟩
  | 32 => ⟨S32x512x512, .f32⟩
  | 33 => ⟨S32x512x512, .i1⟩
  | 34 => ⟨S_, .f32⟩
  | 35 => ⟨S32x512x512, .f32⟩
  | 36 => ⟨S32x512x512, .i1⟩
  | 37 => ⟨S_, .f32⟩
  | 38 => ⟨S_, .i1⟩
  | 39 => ⟨S32x512x512, .i1⟩
  | 40 => ⟨S32x512x512, .i1⟩
  | 41 => ⟨S32x512x512, .i1⟩
  | 42 => ⟨S32x512x512, .f32⟩
  | 43 => ⟨S32x512x512, .f32⟩
  | 44 => ⟨S32x512x512, .f32⟩
  | 45 => ⟨S_, .f32⟩
  | 46 => ⟨S32x512x512, .f32⟩
  | 47 => ⟨S32x512x512, .f32⟩
  | 48 => ⟨S32x512x512, .f32⟩
  | 49 => ⟨S32x512x512, .i32⟩
  | 50 => ⟨S_, .i32⟩
  | 51 => ⟨S_, .i32⟩
  | 52 => ⟨S_, .i32⟩
  | 53 => ⟨S32x512x512, .i32⟩
  | 54 => ⟨S32x512x512, .i32⟩
  | 55 => ⟨S_, .i32⟩
  | 56 => ⟨S32x512x512, .i32⟩
  | 57 => ⟨S32x512x512, .i32⟩
  | 58 => ⟨S512, .i32⟩
  | 59 => ⟨S_, .i32⟩
  | 60 => ⟨S_, .i32⟩
  | 61 => ⟨S512, .i32⟩
  | 62 => ⟨S512, .i32⟩
  | 63 => ⟨S512, .i32⟩
  | 64 => ⟨S_, .i32⟩
  | 65 => ⟨S512, .i32⟩
  | 66 => ⟨S512, .i1⟩
  | 67 => ⟨S512, .i32⟩
  | 68 => ⟨S512, .i32⟩
  | 69 => ⟨S_, .i32⟩
  | 70 => ⟨S512, .i32⟩
  | 71 => ⟨S512, .i1⟩
  | 72 => ⟨S512, .i1⟩
  | 73 => ⟨S_, .i32⟩
  | 74 => ⟨S512, .i32⟩
  | 75 => ⟨S512, .i32⟩
  | 76 => ⟨S512, .i32⟩
  | 77 => ⟨S512, .i32⟩
  | 78 => ⟨S_, .i32⟩
  | 79 => ⟨S_, .i32⟩
  | 80 => ⟨S512, .i32⟩
  | 81 => ⟨S512, .i32⟩
  | 82 => ⟨S512, .i32⟩
  | 83 => ⟨S_, .i32⟩
  | 84 => ⟨S512, .i32⟩
  | 85 => ⟨S512, .i1⟩
  | 86 => ⟨S512, .i32⟩
  | 87 => ⟨S512, .i32⟩
  | 88 => ⟨S_, .i32⟩
  | 89 => ⟨S512, .i32⟩
  | 90 => ⟨S512, .i1⟩
  | 91 => ⟨S512, .i1⟩
  | 92 => ⟨S_, .i32⟩
  | 93 => ⟨S512, .i32⟩
  | 94 => ⟨S512, .i32⟩
  | 95 => ⟨S512, .i32⟩
  | 96 => ⟨S32, .i32⟩
  | 97 => ⟨S32x1x1, .i32⟩
  | 98 => ⟨S_, .i32⟩
  | 99 => ⟨S32x1x1, .i32⟩
  | 100 => ⟨S32x1x1, .i32⟩
  | 101 => ⟨S1x512x1, .i32⟩
  | 102 => ⟨S_, .i32⟩
  | 103 => ⟨S1x512x1, .i32⟩
  | 104 => ⟨S1x512x1, .i32⟩
  | 105 => ⟨S32x512x1, .i32⟩
  | 106 => ⟨S32x512x1, .i32⟩
  | 107 => ⟨S32x512x1, .i32⟩
  | 108 => ⟨S1x1x512, .i32⟩
  | 109 => ⟨S32x512x512, .i32⟩
  | 110 => ⟨S32x512x512, .i32⟩
  | 111 => ⟨S32x512x512, .i32⟩
  | 112 => ⟨S_, .i32⟩
  | 113 => ⟨S32x512x512, .i32⟩
  | 114 => ⟨S32x512x512, .i32⟩
  | 115 => ⟨S32x512x512, .i32⟩
  | 116 => ⟨S8388608, .f32⟩
  | 117 => ⟨S8388608, .i32⟩
  | 118 => ⟨S_, .f32⟩
  | 119 => ⟨S1179648, .f32⟩
  | 120 => ⟨S8388608x1, .i32⟩
  | 121 => ⟨S1179648, .f32⟩
  | 122 => ⟨S32x64x64x9, .f32⟩
  | 123 => ⟨S_, .f32⟩
  | 124 => ⟨S32x64x64x9, .f32⟩
  | 125 => ⟨S32x64x64x9, .f32⟩
  | 126 => ⟨S32x62x62x9, .f32⟩
  | 127 => ⟨S32x62x62x9, .f32⟩
  | _ => ⟨S32x1x512x512, .f32⟩

abbrev hbmTy0_1 (i : Nat) : BufTy := match i % 128 with
  | 0 => ⟨S32x62x62x9, .f32⟩
  | 1 => ⟨S32x62x62x1x9, .f32⟩
  | 2 => ⟨S32x62x62x1x9, .f32⟩
  | 3 => ⟨S32x62x62x1x9, .f32⟩
  | 4 => ⟨S32x62x62x3x9, .f32⟩
  | 5 => ⟨S32x62x62x9, .f32⟩
  | 6 => ⟨S32x62x62x9, .f32⟩
  | 7 => ⟨S32x62x62x9, .f32⟩
  | 8 => ⟨S32x62x62x1x9, .f32⟩
  | 9 => ⟨S32x62x62x1x9, .f32⟩
  | 10 => ⟨S32x62x62x1x9, .f32⟩
  | 11 => ⟨S32x62x62x3x9, .f32⟩
  | 12 => ⟨S32x62x62x9, .f32⟩
  | 13 => ⟨S32x62x62x9, .f32⟩
  | 14 => ⟨S32x62x62x9, .f32⟩
  | 15 => ⟨S32x62x62x1x9, .f32⟩
  | 16 => ⟨S32x62x62x1x9, .f32⟩
  | 17 => ⟨S32x62x62x1x9, .f32⟩
  | 18 => ⟨S32x62x62x3x9, .f32⟩
  | 19 => ⟨S32x62x62x1x3x9, .f32⟩
  | 20 => ⟨S32x62x62x1x3x9, .f32⟩
  | 21 => ⟨S32x62x62x1x3x9, .f32⟩
  | 22 => ⟨S32x62x62x3x3x9, .f32⟩
  | 23 => ⟨S32x62x62x3x3x9, .f32⟩
  | 24 => ⟨S_, .f32⟩
  | 25 => ⟨S32x62x62, .f32⟩
  | 26 => ⟨S32x62x62x1x1x1, .f32⟩
  | 27 => ⟨S_, .f32⟩
  | 28 => ⟨S32x62x62x1x1x1, .f32⟩
  | 29 => ⟨S32x62x62x1x1x1, .f32⟩
  | 30 => ⟨S32x62x62x1x1x1, .f32⟩
  | 31 => ⟨S32x62x62x3x3x9, .f32⟩
  | 32 => ⟨S32x62x62x3x3x9, .f32⟩
  | 33 => ⟨S32x62x62x81, .f32⟩
  | _ => ⟨S32x1x512x512, .f32⟩

abbrev hbmTy (i : Nat) : BufTy := match i / 128 with
  | 0 => hbmTy0_0 i
  | 1 => hbmTy0_1 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_cst : Ref sig .tc := ⟨.hbm, 31, rfl⟩
abbrev main_call0_v3 : Ref sig .tc := ⟨.hbm, 32, rfl⟩
abbrev main_call0_v4 : Ref sig .tc := ⟨.hbm, 33, rfl⟩
abbrev main_call0_cst_0 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c : Ref sig .tc := ⟨.hbm, 50, rfl⟩
abbrev main_c_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v27 : Ref sig .tc := ⟨.hbm, 57, rfl⟩
abbrev main_v28 : Ref sig .tc := ⟨.hbm, 58, rfl⟩
abbrev main_c_6 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v29 : Ref sig .tc := ⟨.hbm, 76, rfl⟩
abbrev main_v30 : Ref sig .tc := ⟨.hbm, 77, rfl⟩
abbrev main_c_7 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_c : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_0 : Ref sig .tc := ⟨.hbm, 92, rfl⟩
abbrev main_call3_v12 : Ref sig .tc := ⟨.hbm, 93, rfl⟩
abbrev main_call3_v13 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_c_8 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_c_9 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_c_10 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_cst_11 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_cst_12 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_13 : Ref sig .tc := ⟨.hbm, 152, rfl⟩
abbrev main_v83 : Ref sig .tc := ⟨.hbm, 153, rfl⟩
abbrev main_v84 : Ref sig .tc := ⟨.hbm, 154, rfl⟩
abbrev main_cst_14 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩

abbrev nD : Nat := 1
abbrev τ : Topo := Topo.v7x

variable {F : FTy → Type} [FloatOps F]
-- ==== Proof.Safety.lean ====
/- What the three programs do besides their values: each runs to its end without a fault, leaves its argument as it was
   and every semaphore at zero; and the kernel with its named angles is the kernel as printed. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Hog

theorem frame_kernel : Cert.quiescent_Kernel := fun m ρ _ => Cert.Kernel.Gen.frame m ρ

theorem frame_ideal : Cert.quiescent_KernelIdeal := fun m ρ _ => Cert.KernelIdeal.Gen.frame m ρ

/-- The reference has no semaphores, so they are all at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The angle `k·20°` of each of the eight bin edges, named. -/
theorem preserves : Cert.preserves_Kernel_KernelIdeal :=
  ⟨IdealRules.named_const.statement Cert.KernelIdeal.κ "th1" .f32 0x3EB2B8C2#32 (((1 / 9) * Real.pi : ℝ) : EReal) rfl,
   IdealRules.named_const.statement Cert.KernelIdeal.κ "th2" .f32 0x3F32B8C2#32 (((2 / 9) * Real.pi : ℝ) : EReal) rfl,
   IdealRules.named_const.statement Cert.KernelIdeal.κ "th3" .f32 0x3F860A92#32 (((1 / 3) * Real.pi : ℝ) : EReal) rfl,
   IdealRules.named_const.statement Cert.KernelIdeal.κ "th4" .f32 0x3FB2B8C2#32 (((4 / 9) * Real.pi : ℝ) : EReal) rfl,
   IdealRules.named_const.statement Cert.KernelIdeal.κ "th5" .f32 0x3FDF66F3#32 (((5 / 9) * Real.pi : ℝ) : EReal) rfl,
   IdealRules.named_const.statement Cert.KernelIdeal.κ "th6" .f32 0x40060A92#32 (((2 / 3) * Real.pi : ℝ) : EReal) rfl,
   IdealRules.named_const.statement Cert.KernelIdeal.κ "th7" .f32 0x401C61AA#32 (((7 / 9) * Real.pi : ℝ) : EReal) rfl,
   IdealRules.named_const.statement Cert.KernelIdeal.κ "th8" .f32 0x4032B8C2#32 (((8 / 9) * Real.pi : ℝ) : EReal) rfl⟩

end Cert.Proof.Hog

end
-- ==== Proof.Stages.lean ====
/- The shared values of the two images of one block are the same functions of the image: the histograms of the nine bins, the
   inverse norms, and the three shifted histogram tables. -/
module

public import proofs.«01_k».proof.Proof.Gen.KernelIdeal.Value

@[expose] public section

set_option maxRecDepth 16384

noncomputable section

open Idealize.ShloMosaic Idealize.ShloMosaic.TcCoe Idealize.SL.Sem
open Cert.KernelIdeal Cert.KernelIdeal.Gen

namespace Cert.Proof.Hog

/-- The kernel's slope of every pixel of the image. -/
def slopeV (v : FVec Ideal S1x512x512 .f32) : FVec Ideal S512x512 .f32 := k0_pay10 (F := Ideal) (k0_pay7 (F := Ideal) v) (k0_pay8 (F := Ideal) v) (k0_pay9 (F := Ideal) v)

/-- The angle of bin edge `k + 1`. -/
def edgeAngle : Fin 8 → Ideal .f32 :=
  ![Named.named κ "th1" 0x3EB2B8C2#32, Named.named κ "th2" 0x3F32B8C2#32, Named.named κ "th3" 0x3F860A92#32,
    Named.named κ "th4" 0x3FB2B8C2#32, Named.named κ "th5" 0x3FDF66F3#32, Named.named κ "th6" 0x40060A92#32,
    Named.named κ "th7" 0x401C61AA#32, Named.named κ "th8" 0x4032B8C2#32]

/-- Which pixels are at or past bin edge `k + 1`. -/
def pastV (v : FVec Ideal S1x512x512 .f32) (k : Fin 8) : IVec S512x512 1 :=
  cmpf .ole (slopeV v) (broadcastTo S512x512
    (divf (broadcast S1x1 (Scalar.ofBits .f32 0x3F800000#32 : Ideal .f32)) (tan (broadcast S1x1 (edgeAngle k)))) broadcasts_S1x1_S512x512)

/-- Which pixels are in bin `o`. -/
def binV (v : FVec Ideal S1x512x512 .f32) : Fin 9 → IVec S512x512 1 :=
  ![xori (pastV v 0) (constantI S512x512 1 1#1), xori (pastV v 0) (pastV v 1), xori (pastV v 1) (pastV v 2),
    xori (pastV v 2) (pastV v 3), xori (pastV v 3) (pastV v 4), xori (pastV v 4) (pastV v 5),
    xori (pastV v 5) (pastV v 6), xori (pastV v 6) (pastV v 7), pastV v 7]

/-- The mean over each 8 by 8 cell of the magnitudes that the mask keeps. -/
def meanV (m : FVec Ideal S512x512 .bf16) (b : IVec S512x512 1) : FVec Ideal S64x64 .f32 :=
  mulf (multiReduction .add [1] S64x64 (shapeCast S64x8x64 (matmul dot_S512x512_S512x64_S512x64_1_0_0_1_n_n none
      (select b m (broadcast S512x512 (Scalar.ofBits .bf16 0x0000#16 : Ideal .bf16))) (k0_pay11 (F := Ideal))
      (constant S512x64 .f32 0x00000000#32)) shapeCasts_S512x64_S64x8x64) 0x00000000#32 reduces_S64x8x64_S64x64 (.inl rfl) rfl)
    (broadcast S64x64 (Scalar.ofBits .f32 0x3C800000#32 : Ideal .f32))

/-- The nine histograms. -/
def histV (v : FVec Ideal S1x512x512 .f32) (o : Fin 9) : FVec Ideal S64x64 .f32 := meanV (k0_pay5 (F := Ideal) v) (binV v o)

/-- The sum over the bins of the squares. -/
def sqV (h : Fin 9 → FVec Ideal S64x64 .f32) : FVec Ideal S64x64 .f32 :=
  addf (addf (addf (addf (addf (addf (addf (addf (mulf (h 0) (h 0)) (mulf (h 1) (h 1))) (mulf (h 2) (h 2))) (mulf (h 3) (h 3)))
    (mulf (h 4) (h 4))) (mulf (h 5) (h 5))) (mulf (h 6) (h 6))) (mulf (h 7) (h 7))) (mulf (h 8) (h 8))

/-- The inverse norms of the 3 by 3 blocks of cells, transposed. -/
def normV (s : FVec Ideal S64x64 .f32) : FVec Ideal S62x62 .f32 :=
  k0_pay36 s
    (addf (addf (broadcast S62x62 (Scalar.ofBits .f32 0x00000000#32 : Ideal .f32))
      (extractStridedSlice S62x62 ![0, 0] s slices_S64x64_o0_0_S62x62)) (extractStridedSlice S62x62 ![0, 1] s slices_S64x64_o0_1_S62x62))
    (extractStridedSlice S62x62 ![0, 2] s slices_S64x64_o0_2_S62x62)

/-- The histograms by cell column, their lanes ordered by cell row and bin. -/
def hitV (h : Fin 9 → FVec Ideal S64x64 .f32) (W : FVec Ideal S576x576 .bf16) : FVec Ideal S64x576 .bf16 :=
  k0_pay37 (h 0) (h 1) (h 2) (h 3) (h 4) (h 5) (h 6) (h 7) (h 8) W

/-- The same, one cell column on. -/
def hit1V (t : FVec Ideal S64x576 .bf16) : FVec Ideal S64x576 .bf16 :=
  k0_pay41 (extractStridedSlice S63x576 ![1, 0] t slices_S64x576_o1_0_S63x576) (k0_pay40 (F := Ideal))

/-- The same, two cell columns on. -/
def hit2V (t : FVec Ideal S64x576 .bf16) : FVec Ideal S64x576 .bf16 := k0_pay42 t (k0_pay38 (F := Ideal))

section

variable (x0 : Vec Ideal S2x512x512 .f32) (x1 : Vec Ideal S576x576 .bf16) (x2 : Vec Ideal S81x81 .bf16)

/-- The block's first image. -/
def img0 : FVec Ideal S1x512x512 .f32 := View.ld x0 r0_0
/-- The block's second image. -/
def img1 : FVec Ideal S1x512x512 .f32 := View.ld x0 r0_65
/-- The table that orders the lanes, as loaded. -/
def tabE : FVec Ideal S576x576 .bf16 := View.ld x1 r0_1
/-- The table that orders the features, as loaded. -/
def tabP : FVec Ideal S81x81 .bf16 := View.ld x2 r0_2

/-- The first image's histograms, as the body computes them. -/
def hists0 : Fin 9 → FVec Ideal S64x64 .f32 :=
  ![k0_pay258 x0 x1 x2, k0_pay259 x0 x1 x2, k0_pay260 x0 x1 x2, k0_pay261 x0 x1 x2, k0_pay262 x0 x1 x2,
    k0_pay265 x0 x1 x2, k0_pay266 x0 x1 x2, k0_pay267 x0 x1 x2, k0_pay268 x0 x1 x2]
/-- The second image's. -/
def hists1 : Fin 9 → FVec Ideal S64x64 .f32 :=
  ![k0_pay294 x0 x1 x2, k0_pay295 x0 x1 x2, k0_pay297 x0 x1 x2, k0_pay298 x0 x1 x2, k0_pay299 x0 x1 x2,
    k0_pay300 x0 x1 x2, k0_pay301 x0 x1 x2, k0_pay304 x0 x1 x2, k0_pay305 x0 x1 x2]

theorem slope0 : k0_pay248 x0 x1 x2 = slopeV (img0 x0) := rfl
theorem slope1 : k0_pay284 x0 x1 x2 = slopeV (img1 x0) := rfl
theorem mag1 : k0_pay283 x0 x1 x2 = k0_pay5 (F := Ideal) (img1 x0) := rfl
theorem pool1 : k0_pay285 x0 x1 x2 = k0_pay11 (F := Ideal) := rfl

theorem past0 : ![k0_pay250 x0 x1 x2, k0_pay251 x0 x1 x2, k0_pay252 x0 x1 x2, k0_pay253 x0 x1 x2, k0_pay254 x0 x1 x2, k0_pay255 x0 x1 x2, k0_pay256 x0 x1 x2, k0_pay257 x0 x1 x2] = pastV (img0 x0) := by
  funext k; fin_cases k <;> rfl
theorem past1 : ![k0_pay286 x0 x1 x2, k0_pay287 x0 x1 x2, k0_pay288 x0 x1 x2, k0_pay289 x0 x1 x2, k0_pay290 x0 x1 x2, k0_pay291 x0 x1 x2, k0_pay292 x0 x1 x2, k0_pay293 x0 x1 x2] = pastV (img1 x0) := by
  funext k; fin_cases k <;> rfl

theorem hists0_eq : hists0 x0 x1 x2 = histV (img0 x0) := by
  funext o; fin_cases o <;> rfl
theorem hists1_eq : hists1 x0 x1 x2 = histV (img1 x0) := by
  funext o; fin_cases o <;> rfl

theorem norm0 : k0_pay269 x0 x1 x2 = normV (sqV (histV (img0 x0))) := by rw [← hists0_eq x0 x1 x2]; rfl
theorem norm1 : k0_pay307 x0 x1 x2 = normV (sqV (histV (img1 x0))) := by rw [← hists1_eq x0 x1 x2]; rfl
theorem hit0 : k0_pay270 x0 x1 x2 = hitV (histV (img0 x0)) (tabE x1) := by rw [← hists0_eq x0 x1 x2]; rfl
theorem hit1 : k0_pay308 x0 x1 x2 = hitV (histV (img1 x0)) (tabE x1) := by rw [← hists1_eq x0 x1 x2]; rfl
theorem hit0_1 : k0_pay274 x0 x1 x2 = hit1V (hitV (histV (img0 x0)) (tabE x1)) := by rw [← hit0 x0 x1 x2]; rfl
theorem hit1_1 : k0_pay309 x0 x1 x2 = hit1V (hitV (histV (img1 x0)) (tabE x1)) := by rw [← hit1 x0 x1 x2]; rfl
theorem hit0_2 : k0_pay275 x0 x1 x2 = hit2V (hitV (histV (img0 x0)) (tabE x1)) := by rw [← hit0 x0 x1 x2]; rfl
theorem hit1_2 : k0_pay310 x0 x1 x2 = hit2V (hitV (histV (img1 x0)) (tabE x1)) := by rw [← hit1 x0 x1 x2]; rfl
theorem perm0 : k0_pay276 x0 x1 x2 = k0_pay43 (tabP x2) := rfl
theorem perm1 : k0_pay311 x0 x1 x2 = k0_pay43 (tabP x2) := rfl

end

end Cert.Proof.Hog

end
-- ==== Proof.Angle.lean ====
/- One pixel: its gradient `(g, h)` on extended reals, the bin that the kernel's slope comparisons put it in, and the bin
   that the reference's angle in degrees puts it in. Where the magnitude is finite and not zero the two agree; where it is
   infinite the kernel still puts the pixel in some bin. -/
module

public import Idealize.ShloMosaic.PureOps.Ideal.Laws

@[expose] public section

noncomputable section

open Idealize.ShloMosaic

namespace Cert.Proof.Hog

/-- The gradient's magnitude. -/
def mag (g h : EReal) : EReal := Ideal.sqrt (g * g + h * h)

/-- The kernel's slope: column difference over row difference, `⊤` where the row difference is zero. -/
def slope (g h : EReal) : EReal :=
  if max g (-g) = 0 then ⊤ else (if g < 0 then 0 - h else h) * Ideal.div 1 (max g (-g))

/-- Whether the gradient's angle is at or past `k·20°`: the slope is at most the cotangent of that angle. -/
def past (k : ℕ) (g h : EReal) : Bool :=
  if k = 0 then true else if k = 9 then false
  else decide (slope g h ≤ Ideal.div 1 (Ideal.tan (((k : ℝ) / 9 * Real.pi : ℝ) : EReal)))

/-- The kernel's test for bin `o`. -/
def inBin (o : ℕ) (g h : EReal) : Bool := xor (past o g h) (past (o + 1) g h)

/-- An angle in degrees modulo a half turn, as the reference takes it. -/
def turn (d : EReal) : EReal :=
  Scalar.select
    (IntOp.andi (IntOp.cmpi .ne (Ideal.cmp .olt (Ideal.remf d ((180 : ℝ) : EReal)) 0) (Ideal.cmp .olt ((180 : ℝ) : EReal) 0))
      (Ideal.cmp .une (Ideal.remf d ((180 : ℝ) : EReal)) 0))
    (Ideal.remf d ((180 : ℝ) : EReal) + ((180 : ℝ) : EReal)) (Ideal.remf d ((180 : ℝ) : EReal))

/-- The reference's bin, as a word. -/
def binWord (g h : EReal) : BitVec 32 :=
  IntOp.minsi 8#32 (IntOp.maxsi 0#32 (Ideal.fptosi 32 (Ideal.liftRound Int.floor
    (Ideal.div (turn (Ideal.atan2 g h * Ideal.div ((180 : ℝ) : EReal) (Ideal.acos ((-1 : ℝ) : EReal)))) ((20 : ℝ) : EReal)))))

def bin (g h : EReal) : ℕ := (binWord g h).toNat

/-- A word clamped between 0 and 8. -/
theorem clamp_toNat (w : BitVec 32) :
    (IntOp.minsi 8#32 (IntOp.maxsi 0#32 w)).toNat = (max 0 (min 8 w.toInt)).toNat := by
  unfold IntOp.minsi IntOp.maxsi
  have h8 : (8#32 : BitVec 32).toInt = 8 := by decide
  have h0 : (0#32 : BitVec 32).toInt = 0 := by decide
  simp only [BitVec.slt, h8, h0, decide_eq_true_eq]
  have hw := w.toInt_lt
  by_cases h1 : w.toInt < 0
  · rw [if_pos h1, h0, if_neg (by decide)]
    rw [min_eq_right (by omega), max_eq_left (by omega)]; rfl
  · rw [if_neg h1]
    have hn : (w.toNat : ℤ) = w.toInt := by
      rw [BitVec.toInt_eq_toNat_cond] at h1 ⊢
      split <;> split at h1 <;> omega
    by_cases h2 : 8 < w.toInt
    · rw [if_pos h2, min_eq_left (by omega)]; rfl
    · rw [if_neg h2]; omega

theorem bin_lt (g h : EReal) : bin g h < 9 := by
  unfold bin binWord; rw [clamp_toNat]; omega

theorem bool_change (u : ℕ → Bool) (n : ℕ) (h : u 0 ≠ u n) : ∃ o < n, xor (u o) (u (o + 1)) = true := by
  induction n with
  | zero => exact absurd rfl h
  | succ n ih =>
    by_cases e : u 0 = u n
    · exact ⟨n, Nat.lt_succ_self n, by rw [← e]; cases h0 : u 0 <;> cases h1 : u (n + 1) <;> simp_all⟩
    · obtain ⟨o, ho, hx⟩ := ih e
      exact ⟨o, Nat.lt_succ_of_lt ho, hx⟩

/-- Every pixel is in some bin of the kernel's. -/
theorem exists_inBin (g h : EReal) : ∃ o < 9, inBin o g h = true :=
  bool_change (fun k => past k g h) 9 (by simp [past])

/-! ## The magnitude -/

theorem sq_nonneg' (g : EReal) : 0 ≤ g * g := by
  induction g with
  | bot => simp
  | top => simp
  | coe r => rw [← EReal.coe_mul]; exact_mod_cast mul_self_nonneg r

theorem mul_self_ne_top {g : EReal} (h : g * g ≠ ⊤) : ∃ a : ℝ, g = a := by
  induction g with
  | bot => exact absurd (by simp) h
  | top => exact absurd (by simp) h
  | coe r => exact ⟨r, rfl⟩

theorem sqrt_nonneg' {x : EReal} (h : 0 ≤ x) : 0 ≤ Ideal.sqrt x := by
  induction x with
  | bot => simp at h
  | top => simp
  | coe r =>
    have hr : ¬ r < 0 := not_lt.mpr (by exact_mod_cast h)
    rw [Ideal.sqrt_coe, if_neg hr]; exact_mod_cast Real.sqrt_nonneg r

theorem mag_nonneg (g h : EReal) : 0 ≤ mag g h := sqrt_nonneg' (add_nonneg (sq_nonneg' g) (sq_nonneg' h))

/-- A finite magnitude has finite differences. -/
theorem real_of_mag {g h : EReal} (hm : mag g h ≠ ⊤) : ∃ a b : ℝ, g = a ∧ h = b := by
  have ht : g * g + h * h ≠ ⊤ := fun e => hm (by rw [mag, e, Ideal.sqrt_top])
  have h1 : g * g ≠ ⊤ := fun e => ht (by rw [e]; exact EReal.top_add_of_ne_bot (ne_of_gt (lt_of_lt_of_le (by simp) (sq_nonneg' h))))
  have h2 : h * h ≠ ⊤ := fun e => ht (by rw [e]; exact EReal.add_top_of_ne_bot (ne_of_gt (lt_of_lt_of_le (by simp) (sq_nonneg' g))))
  obtain ⟨a, rfl⟩ := mul_self_ne_top h1
  obtain ⟨b, rfl⟩ := mul_self_ne_top h2
  exact ⟨a, b, rfl, rfl⟩

theorem mag_coe (a b : ℝ) : mag a b = ((Real.sqrt (a * a + b * b) : ℝ) : EReal) := by
  rw [mag, ← EReal.coe_mul, ← EReal.coe_mul, ← EReal.coe_add, Ideal.sqrt_coe,
    if_neg (not_lt.mpr (add_nonneg (mul_self_nonneg a) (mul_self_nonneg b)))]

/-! ## The angle of a finite gradient -/

/-- The angle in `(0, π)` whose cotangent is `t`. -/
def ang (t : ℝ) : ℝ := Real.pi / 2 - Real.arctan t

theorem ang_pos (t : ℝ) : 0 < ang t := by have := Real.arctan_lt_pi_div_two t; unfold ang; linarith
theorem ang_lt (t : ℝ) : ang t < Real.pi := by have := Real.neg_pi_div_two_lt_arctan t; unfold ang; linarith

theorem le_ang_iff {t x : ℝ} (h0 : 0 < x) (h1 : x < Real.pi) : x ≤ ang t ↔ t ≤ (Real.tan x)⁻¹ := by
  rw [← Real.tan_pi_div_two_sub]
  have e : Real.arctan (Real.tan (Real.pi / 2 - x)) = Real.pi / 2 - x := Real.arctan_tan (by linarith) (by linarith)
  rw [← Real.arctan_strictMono.le_iff_le (a := t), e, ang]
  constructor <;> intro h <;> linarith

/-- The angle of `(g, h)` is `ang (h / g)`, or that less a half turn where `g` is negative. -/
theorem atan2_real {g : ℝ} (h : ℝ) (hg : g ≠ 0) :
    Ideal.atan2 g h = ((ang (h / g) - (if g < 0 then Real.pi else 0) : ℝ) : EReal) := by
  show ((if 0 < h then Real.arctan (g / h)
      else if h < 0 then (if 0 ≤ g then Real.arctan (g / h) + Real.pi else Real.arctan (g / h) - Real.pi)
      else if 0 < g then Real.pi / 2 else if g < 0 then -(Real.pi / 2) else 0 : ℝ) : EReal) = _
  congr 1
  have hinv : g / h = (h / g)⁻¹ := by rw [inv_div]
  unfold ang
  rcases lt_trichotomy h 0 with hh | hh | hh
  · rw [if_neg (by linarith), if_pos hh, hinv]
    rcases lt_or_gt_of_ne hg with hg' | hg'
    · rw [if_neg (by linarith), if_pos hg', Real.arctan_inv_of_pos (div_pos_of_neg_of_neg hh hg')]
    · rw [if_pos (by linarith), if_neg (by linarith), Real.arctan_inv_of_neg (div_neg_of_neg_of_pos hh hg')]; ring
  · subst hh
    rw [if_neg (lt_irrefl _), if_neg (lt_irrefl _), zero_div, Real.arctan_zero]
    rcases lt_or_gt_of_ne hg with hg' | hg'
    · rw [if_neg (by linarith), if_pos hg', if_pos hg']; ring
    · rw [if_pos hg', if_neg (by linarith)]; ring
  · rw [if_pos hh, hinv]
    rcases lt_or_gt_of_ne hg with hg' | hg'
    · rw [if_pos hg', Real.arctan_inv_of_neg (div_neg_of_pos_of_neg hh hg')]; ring
    · rw [if_neg (by linarith), Real.arctan_inv_of_pos (div_pos hh hg')]; ring

theorem truncInt_zero {r : ℝ} (h0 : -1 < r) (h1 : r < 1) : Ideal.truncInt r = 0 := by
  unfold Ideal.truncInt
  split
  · next h => rw [Int.floor_eq_iff]; simp; exact ⟨h, h1⟩
  · next h => rw [Int.ceil_eq_iff]; push Not at h; constructor <;> push_cast <;> linarith

theorem remf_small {d : ℝ} (h0 : -180 < d) (h1 : d < 180) : Ideal.remf d ((180 : ℝ) : EReal) = d := by
  rw [Ideal.remf_coe, if_neg (by norm_num),
    truncInt_zero (by rw [lt_div_iff₀ (by norm_num)]; linarith) (by rw [div_lt_iff₀ (by norm_num)]; linarith)]
  simp

theorem turn_nonneg {d : ℝ} (h0 : 0 ≤ d) (h1 : d < 180) : turn d = d := by
  unfold turn
  rw [remf_small (by linarith) h1]
  have e1 : Ideal.cmp .olt (d : EReal) 0 = 0#1 := by
    simp only [Ideal.cmp]; rw [decide_eq_false (not_lt.mpr (by exact_mod_cast h0))]; rfl
  have e2 : Ideal.cmp .olt ((180 : ℝ) : EReal) 0 = 0#1 := by
    simp only [Ideal.cmp]; rw [decide_eq_false (not_lt.mpr (by exact_mod_cast (by norm_num : (0 : ℝ) ≤ 180)))]; rfl
  rw [e1, e2]
  simp [Scalar.select, IntOp.andi, IntOp.cmpi]

theorem turn_neg {d : ℝ} (h0 : -180 < d) (h1 : d < 0) : turn d = ((d + 180 : ℝ) : EReal) := by
  unfold turn
  rw [remf_small h0 (by linarith)]
  have e1 : Ideal.cmp .olt (d : EReal) 0 = 1#1 := by
    simp only [Ideal.cmp]; rw [decide_eq_true (by exact_mod_cast h1)]; rfl
  have e2 : Ideal.cmp .olt ((180 : ℝ) : EReal) 0 = 0#1 := by
    simp only [Ideal.cmp]; rw [decide_eq_false (not_lt.mpr (by exact_mod_cast (by norm_num : (0 : ℝ) ≤ 180)))]; rfl
  have e3 : Ideal.cmp .une (d : EReal) 0 = 1#1 := by
    simp only [Ideal.cmp]; rw [decide_eq_true (by exact_mod_cast h1.ne)]; rfl
  rw [e1, e2, e3, EReal.coe_add]
  simp [Scalar.select, IntOp.andi, IntOp.cmpi]

theorem turn_half : turn ((180 : ℝ) : EReal) = ((0 : ℝ) : EReal) := by
  have e : Ideal.remf ((180 : ℝ) : EReal) ((180 : ℝ) : EReal) = ((0 : ℝ) : EReal) := by
    rw [Ideal.remf_coe, if_neg (by norm_num), div_self (by norm_num)]
    have : Ideal.truncInt 1 = 1 := by unfold Ideal.truncInt; rw [if_pos zero_le_one, Int.floor_one]
    rw [this]; simp
  unfold turn
  rw [e]
  have e1 : Ideal.cmp .une ((0 : ℝ) : EReal) 0 = 0#1 := by simp [Ideal.cmp]
  rw [e1]
  simp [Scalar.select, IntOp.andi]

theorem degrees (a : ℝ) :
    (a : EReal) * Ideal.div ((180 : ℝ) : EReal) (Ideal.acos ((-1 : ℝ) : EReal)) = ((a * (180 / Real.pi) : ℝ) : EReal) := by
  rw [Ideal.acos_coe, if_pos (by norm_num), Real.arccos_neg_one, Ideal.div_coe Real.pi_ne_zero, ← EReal.coe_mul, ← EReal.coe_mul]
  congr 1; ring

/-- From the angle in degrees to the bin. -/
theorem clamp_floor {d : ℝ} (h0 : 0 ≤ d) (h1 : d < 180) (o : ℕ) (ho : o < 9) :
    (IntOp.minsi 8#32 (IntOp.maxsi 0#32 (Ideal.fptosi 32 (Ideal.liftRound Int.floor
      (Ideal.div (d : EReal) ((20 : ℝ) : EReal)))))).toNat = o ↔ (o : ℝ) * 20 ≤ d ∧ d < (o + 1 : ℝ) * 20 := by
  have hq : Ideal.div (d : EReal) ((20 : ℝ) : EReal) = ((d / 20 : ℝ) : EReal) := by
    rw [Ideal.div_coe (by norm_num), ← EReal.coe_mul]; congr 1; ring
  have f0 : 0 ≤ ⌊d / 20⌋ := Int.floor_nonneg.mpr (by positivity)
  have f9 : ⌊d / 20⌋ < 9 := Int.floor_lt.mpr (by push_cast; rw [div_lt_iff₀ (by norm_num)]; linarith)
  rw [clamp_toNat, hq, Ideal.liftRound_coe, Ideal.fptosi, Ideal.toIntClamped_coe, if_pos (by exact_mod_cast f0), Int.floor_intCast]
  have e : max (-((2 ^ (32 - 1) : ℕ) : ℤ)) (min (((2 ^ (32 - 1) : ℕ) : ℤ) - 1) ⌊d / 20⌋) = ⌊d / 20⌋ := by
    norm_num; omega
  have e' : (BitVec.ofInt 32 ⌊d / 20⌋).toInt = ⌊d / 20⌋ := by
    rw [BitVec.toInt_ofInt]; simp only [Int.bmod]; norm_num; omega
  rw [e, e', show (max 0 (min 8 ⌊d / 20⌋)).toNat = o ↔ ⌊d / 20⌋ = (o : ℤ) by omega, Int.floor_eq_iff]
  push_cast
  rw [le_div_iff₀ (by norm_num), div_lt_iff₀ (by norm_num)]

theorem ang_deg {t : ℝ} : 0 < ang t * (180 / Real.pi) ∧ ang t * (180 / Real.pi) < 180 := by
  have hp := Real.pi_pos
  refine ⟨mul_pos (ang_pos t) (by positivity), ?_⟩
  rw [← mul_div_assoc, div_lt_iff₀ hp]
  nlinarith [ang_lt t]

/-- Where the row difference is not zero, the reference's angle in degrees. -/
theorem turn_real {g : ℝ} (h : ℝ) (hg : g ≠ 0) :
    turn (Ideal.atan2 g h * Ideal.div ((180 : ℝ) : EReal) (Ideal.acos ((-1 : ℝ) : EReal)))
      = ((ang (h / g) * (180 / Real.pi) : ℝ) : EReal) := by
  have hp := Real.pi_pos
  obtain ⟨a0, a1⟩ := ang_deg (t := h / g)
  rw [atan2_real h hg, degrees]
  by_cases hn : g < 0
  · rw [if_pos hn]
    have e : (ang (h / g) - Real.pi) * (180 / Real.pi) = ang (h / g) * (180 / Real.pi) - 180 := by field_simp
    rw [e, turn_neg (by linarith) (by linarith), sub_add_cancel]
  · rw [if_neg hn, sub_zero, turn_nonneg a0.le a1]

theorem slope_real {g : ℝ} (h : ℝ) (hg : g ≠ 0) : slope g h = ((h / g : ℝ) : EReal) := by
  have ha : max (g : EReal) (-(g : EReal)) = ((|g| : ℝ) : EReal) := by
    rw [abs, ← EReal.coe_neg]; exact ((EReal.coe_strictMono.monotone.map_max (a := g) (b := -g))).symm
  have hne : |g| ≠ 0 := abs_ne_zero.mpr hg
  unfold slope
  rw [ha, if_neg (by exact_mod_cast hne), Ideal.div_coe hne, one_mul]
  by_cases hn : g < 0
  · rw [if_pos (by exact_mod_cast hn), zero_sub, ← EReal.coe_neg, ← EReal.coe_mul, abs_of_neg hn]
    congr 1; field_simp
  · rw [if_neg (by exact_mod_cast hn), ← EReal.coe_mul, abs_of_nonneg (not_lt.mp hn)]
    congr 1; field_simp

theorem slope_zero (h : EReal) : slope ((0 : ℝ) : EReal) h = ⊤ := by
  unfold slope; rw [if_pos (by simp)]

theorem edge_real {k : ℕ} (h0 : 0 < k) (h1 : k < 9) :
    Ideal.div 1 (Ideal.tan (((k : ℝ) / 9 * Real.pi : ℝ) : EReal)) = (((Real.tan ((k : ℝ) / 9 * Real.pi))⁻¹ : ℝ) : EReal) := by
  have hp := Real.pi_pos
  have hk0 : (0 : ℝ) < k := by exact_mod_cast h0
  have hk1 : (k : ℝ) < 9 := by exact_mod_cast h1
  have hs : Real.sin ((k : ℝ) / 9 * Real.pi) ≠ 0 :=
    (Real.sin_pos_of_pos_of_lt_pi (by positivity) (by nlinarith)).ne'
  have hc : Real.cos ((k : ℝ) / 9 * Real.pi) ≠ 0 := by
    intro hc
    rw [Real.cos_eq_zero_iff] at hc
    obtain ⟨n, hn⟩ := hc
    have h2 : (k : ℝ) * 2 = 9 * (2 * n + 1) := by
      have := mul_right_cancel₀ hp.ne' (a := (k : ℝ) / 9) (c := (2 * n + 1 : ℝ) / 2) (by rw [hn]; ring)
      linarith
    have h3 : (k : ℤ) * 2 = 9 * (2 * n + 1) := by exact_mod_cast h2
    omega
  have ht : Real.tan ((k : ℝ) / 9 * Real.pi) ≠ 0 := by
    rw [Real.tan_eq_sin_div_cos]; exact div_ne_zero hs hc
  rw [Ideal.tan_coe, Ideal.div_coe ht, one_mul, one_div]

/-- A finite gradient whose row difference is not zero is past `k·20°` exactly when its angle in degrees is. -/
theorem past_real {g : ℝ} (h : ℝ) (hg : g ≠ 0) {k : ℕ} (hk : k ≤ 9) :
    past k g h = decide ((k : ℝ) * 20 ≤ ang (h / g) * (180 / Real.pi)) := by
  have hp := Real.pi_pos
  obtain ⟨a0, a1⟩ := ang_deg (t := h / g)
  unfold past
  by_cases h0 : k = 0
  · subst h0; rw [if_pos rfl, decide_eq_true]; push_cast; linarith
  by_cases h9 : k = 9
  · subst h9; rw [if_neg (by decide), if_pos rfl, decide_eq_false]; push_cast; linarith
  have hk0 : (0 : ℝ) < k := by exact_mod_cast Nat.pos_of_ne_zero h0
  have hk1 : (k : ℝ) < 9 := by exact_mod_cast lt_of_le_of_ne hk h9
  rw [if_neg h0, if_neg h9, slope_real h hg, edge_real (Nat.pos_of_ne_zero h0) (lt_of_le_of_ne hk h9)]
  apply decide_eq_decide.mpr
  rw [EReal.coe_le_coe_iff, ← le_ang_iff (by positivity) (by nlinarith)]
  have e : (k : ℝ) / 9 * Real.pi = (k : ℝ) * 20 / (180 / Real.pi) := by field_simp; norm_num
  rw [e, div_le_iff₀ (by positivity)]

/-- The two bins agree on a finite gradient that is not zero. -/
theorem inBin_real {g h : ℝ} (hne : g ≠ 0 ∨ h ≠ 0) {o : ℕ} (ho : o < 9) :
    inBin o g h = decide (bin g h = o) := by
  by_cases hg : g = 0
  · subst hg
    have hh : h ≠ 0 := hne.resolve_left (fun e => e rfl)
    have ht : turn (Ideal.atan2 ((0 : ℝ) : EReal) h * Ideal.div ((180 : ℝ) : EReal) (Ideal.acos ((-1 : ℝ) : EReal)))
        = ((0 : ℝ) : EReal) := by
      rcases lt_or_gt_of_ne hh with hl | hl
      · have : Ideal.atan2 ((0 : ℝ) : EReal) (h : EReal) = ((Real.pi : ℝ) : EReal) := by
          show ((if 0 < h then _ else if h < 0 then (if (0 : ℝ) ≤ 0 then Real.arctan (0 / h) + Real.pi else _) else _ : ℝ) : EReal) = _
          rw [if_neg (by linarith), if_pos hl, if_pos le_rfl, zero_div, Real.arctan_zero, zero_add]
        rw [this, degrees, show Real.pi * (180 / Real.pi) = 180 by field_simp, turn_half]
      · have : Ideal.atan2 ((0 : ℝ) : EReal) (h : EReal) = ((0 : ℝ) : EReal) := by
          show ((if 0 < h then Real.arctan (0 / h) else _ : ℝ) : EReal) = _
          rw [if_pos hl, zero_div, Real.arctan_zero]
        rw [this, degrees, zero_mul, turn_nonneg le_rfl (by norm_num)]
    have hb : bin ((0 : ℝ) : EReal) h = 0 := by
      unfold bin binWord; rw [ht]
      exact (clamp_floor le_rfl (by norm_num) 0 (by norm_num)).mpr (by norm_num)
    have hpast : ∀ k ≤ 9, past k ((0 : ℝ) : EReal) h = decide (k = 0) := by
      intro k hk; unfold past
      by_cases h0 : k = 0
      · rw [if_pos h0, decide_eq_true h0]
      · rw [if_neg h0, decide_eq_false h0]
        by_cases h9 : k = 9
        · rw [if_pos h9]
        · rw [if_neg h9, slope_zero, edge_real (Nat.pos_of_ne_zero h0) (lt_of_le_of_ne hk h9)]
          exact decide_eq_false (fun e => EReal.coe_ne_top _ (top_le_iff.mp e))
    unfold inBin
    rw [hpast o (by omega), hpast (o + 1) (by omega), hb]
    rcases o with _ | o <;> simp
  · unfold inBin
    rw [past_real h hg (by omega), past_real h hg (by omega)]
    have key := clamp_floor (ang_deg (t := h / g)).1.le (ang_deg (t := h / g)).2 o ho
    rw [← turn_real h hg] at key
    have key' : decide (bin g h = o) = decide ((o : ℝ) * 20 ≤ ang (h / g) * (180 / Real.pi) ∧
        ang (h / g) * (180 / Real.pi) < (o + 1 : ℝ) * 20) := decide_eq_decide.mpr key
    rw [key']
    push_cast
    by_cases h1 : (o : ℝ) * 20 ≤ ang (h / g) * (180 / Real.pi) <;>
      by_cases h2 : ((o : ℝ) + 1) * 20 ≤ ang (h / g) * (180 / Real.pi)
    · simp [h1, h2, not_lt.mpr h2]
    · simp [h1, h2, not_le.mp h2]
    · exact absurd (le_trans (by linarith) h2) h1
    · simp [h1, h2]

/-- What the pixel adds to bin `o`, on either side, where its magnitude is finite. -/
theorem part_eq {g h : EReal} (hm : mag g h ≠ ⊤) {o : ℕ} (ho : o < 9) :
    (if inBin o g h then mag g h else 0) = if bin g h = o then mag g h else 0 := by
  obtain ⟨a, b, rfl, rfl⟩ := real_of_mag hm
  by_cases hz : a ≠ 0 ∨ b ≠ 0
  · rw [inBin_real hz ho]; simp
  · push Not at hz
    obtain ⟨rfl, rfl⟩ := hz
    rw [mag_coe]; simp

end Cert.Proof.Hog

end
-- ==== Proof.Cells.lean ====
/- Cells, blocks and the result, on one image of values `X` at row and column numbers: the kernel's way (mean by a factor,
   scale by the inverse norm) and the reference's (mean by a division, divide by the norm). They are equal: where every
   magnitude of the block is finite the histograms agree, and where one is infinite both norms are `⊤` and both results 0. -/
module

public import proofs.«01_k».proof.Proof.Angle

@[expose] public section

noncomputable section

open Idealize.ShloMosaic

namespace Cert.Proof.Hog

/-- Central difference along the rows, zero on the first and the last row. -/
def gRow (X : ℕ → ℕ → EReal) (y x : ℕ) : EReal := if y = 0 ∨ y = 511 then 0 else X (y + 1) x - X (y - 1) x
/-- Central difference along the columns, zero on the first and the last column. -/
def gCol (X : ℕ → ℕ → EReal) (y x : ℕ) : EReal := if x = 0 ∨ x = 511 then 0 else X y (x + 1) - X y (x - 1)
def magAt (X : ℕ → ℕ → EReal) (y x : ℕ) : EReal := mag (gRow X y x) (gCol X y x)
def inAt (X : ℕ → ℕ → EReal) (o y x : ℕ) : Bool := inBin o (gRow X y x) (gCol X y x)
def binAt (X : ℕ → ℕ → EReal) (y x : ℕ) : ℕ := bin (gRow X y x) (gCol X y x)

/-- The sum over the 8 by 8 pixels of a cell. -/
def cellSum (f : ℕ → ℕ → EReal) (R C : ℕ) : EReal := ∑ i : Fin 8, ∑ j : Fin 8, f (8 * R + i) (8 * C + j)

def kPart (X : ℕ → ℕ → EReal) (o y x : ℕ) : EReal := if inAt X o y x then magAt X y x else 0
def rPart (X : ℕ → ℕ → EReal) (o y x : ℕ) : EReal := if binAt X y x = o then magAt X y x else 0
def kHist (X : ℕ → ℕ → EReal) (o R C : ℕ) : EReal := cellSum (kPart X o) R C * ((1 / 64 : ℝ) : EReal)
def rHist (X : ℕ → ℕ → EReal) (o R C : ℕ) : EReal := Ideal.div (cellSum (rPart X o) R C) ((64 : ℝ) : EReal)

/-- The sum of the squares of a block's 3 by 3 histograms. -/
def blockSq (H : ℕ → ℕ → ℕ → EReal) (r c : ℕ) : EReal :=
  ∑ i : Fin 3, ∑ j : Fin 3, ∑ o : Fin 9, H o (r + i) (c + j) * H o (r + i) (c + j)

/-- The term both sides add under the root. -/
def eps : EReal := Ideal.ofBits .f32 0x2EDBE6FF#32

def kOut (X : ℕ → ℕ → EReal) (r c q : ℕ) : EReal :=
  kHist X (q % 9) (r + q / 27) (c + q / 9 % 3) * Ideal.rsqrt (blockSq (kHist X) r c + eps)
def rOut (X : ℕ → ℕ → EReal) (r c q : ℕ) : EReal :=
  Ideal.div (rHist X (q % 9) (r + q / 27) (c + q / 9 % 3)) (Ideal.sqrt (blockSq (rHist X) r c + eps))

theorem eps_pos : ∃ e : ℝ, 0 < e ∧ eps = e := by
  refine ⟨_, ?_, by unfold eps; simp [Ideal.ofBits, Ideal.ieee, -EReal.coe_mul]; rfl⟩
  positivity

theorem div64 (x : EReal) : Ideal.div x ((64 : ℝ) : EReal) = x * ((1 / 64 : ℝ) : EReal) := Ideal.div_coe (by norm_num) x

theorem scaled_nonneg {x : EReal} (h : 0 ≤ x) : 0 ≤ x * ((1 / 64 : ℝ) : EReal) :=
  mul_nonneg h (by exact_mod_cast (by norm_num : (0 : ℝ) ≤ 1 / 64))

theorem top_scaled : (⊤ : EReal) * ((1 / 64 : ℝ) : EReal) = ⊤ := EReal.top_mul_coe_of_pos (by norm_num)

theorem sum_top {ι : Type} [Fintype ι] {f : ι → EReal} (h : ∀ i, 0 ≤ f i) {i : ι} (hi : f i = ⊤) : ∑ i, f i = ⊤ :=
  top_le_iff.mp (hi ▸ Finset.single_le_sum (f := f) (fun i _ => h i) (Finset.mem_univ i))

theorem cellSum_top {f : ℕ → ℕ → EReal} (h : ∀ y x, 0 ≤ f y x) {R C : ℕ} {i j : Fin 8} (ht : f (8 * R + i) (8 * C + j) = ⊤) :
    cellSum f R C = ⊤ :=
  sum_top (fun _ => Finset.sum_nonneg fun _ _ => h _ _) (i := i) (sum_top (fun _ => h _ _) (i := j) ht)

theorem kPart_nonneg (X : ℕ → ℕ → EReal) (o y x : ℕ) : 0 ≤ kPart X o y x := by
  unfold kPart; split; exacts [mag_nonneg _ _, le_rfl]
theorem rPart_nonneg (X : ℕ → ℕ → EReal) (o y x : ℕ) : 0 ≤ rPart X o y x := by
  unfold rPart; split; exacts [mag_nonneg _ _, le_rfl]

theorem blockSq_nonneg (H : ℕ → ℕ → ℕ → EReal) (r c : ℕ) : 0 ≤ blockSq H r c :=
  Finset.sum_nonneg fun _ _ => Finset.sum_nonneg fun _ _ => Finset.sum_nonneg fun _ _ => sq_nonneg' _

theorem blockSq_top {H : ℕ → ℕ → ℕ → EReal} {r c : ℕ} {i j : Fin 3} {o : ℕ} (ho : o < 9) (h : H o (r + i) (c + j) = ⊤) :
    blockSq H r c = ⊤ := by
  refine sum_top (i := i) (fun _ => Finset.sum_nonneg fun _ _ => Finset.sum_nonneg fun _ _ => sq_nonneg' _) ?_
  refine sum_top (i := j) (fun _ => Finset.sum_nonneg fun _ _ => sq_nonneg' _) ?_
  refine sum_top (i := ⟨o, ho⟩) (fun _ => sq_nonneg' _) ?_
  show H o _ _ * H o _ _ = ⊤
  rw [h]; rfl

/-- Scaling by the inverse root is dividing by the root. -/
theorem mul_rsqrt (h : EReal) {s : EReal} (hs : 0 ≤ s) : h * Ideal.rsqrt (s + eps) = Ideal.div h (Ideal.sqrt (s + eps)) := by
  obtain ⟨e, he, hE⟩ := eps_pos
  rw [hE]
  induction s with
  | bot => simp at hs
  | top => rw [EReal.top_add_coe, Ideal.rsqrt_top, Ideal.sqrt_top]; simp [Ideal.div]
  | coe r =>
    have hr : 0 ≤ r := by exact_mod_cast hs
    have hp : 0 < r + e := by linarith
    rw [← EReal.coe_add, Ideal.rsqrt_coe, Ideal.sqrt_coe, if_neg (not_lt.mpr hp.le), if_neg hp.ne', if_neg (not_lt.mpr hp.le),
      Ideal.div_coe (Real.sqrt_pos.mpr hp).ne', one_div]

/-- THE EQUATION: the two results agree. -/
theorem kOut_eq_rOut (X : ℕ → ℕ → EReal) (r c q : ℕ) (hq : q < 81) : kOut X r c q = rOut X r c q := by
  unfold kOut rOut
  by_cases hfin : ∀ (i j : Fin 3) (a b : Fin 8), magAt X (8 * (r + i) + a) (8 * (c + j) + b) ≠ ⊤
  · have hh : ∀ (i j : Fin 3) (o : ℕ), o < 9 → kHist X o (r + i) (c + j) = rHist X o (r + i) (c + j) := by
      intro i j o ho
      unfold kHist rHist
      rw [div64]
      congr 1
      exact Finset.sum_congr rfl fun a _ => Finset.sum_congr rfl fun b _ => part_eq (hfin i j a b) ho
    have hb : blockSq (kHist X) r c = blockSq (rHist X) r c :=
      Finset.sum_congr rfl fun i _ => Finset.sum_congr rfl fun j _ => Finset.sum_congr rfl fun o _ => by rw [hh i j o o.isLt]
    rw [mul_rsqrt _ (blockSq_nonneg _ _ _), hb]
    congr 1
    exact hh ⟨q / 27, by omega⟩ ⟨q / 9 % 3, by omega⟩ (q % 9) (by omega)
  · push Not at hfin
    obtain ⟨i, j, a, b, ht⟩ := hfin
    have hk : blockSq (kHist X) r c = ⊤ := by
      obtain ⟨o, ho, hin⟩ := exists_inBin (gRow X (8 * (r + i) + a) (8 * (c + j) + b)) (gCol X (8 * (r + i) + a) (8 * (c + j) + b))
      refine blockSq_top (i := i) (j := j) ho ?_
      unfold kHist
      rw [cellSum_top (kPart_nonneg X o) (i := a) (j := b) (by unfold kPart inAt; rw [if_pos hin]; exact ht), top_scaled]
    have hr : blockSq (rHist X) r c = ⊤ := by
      refine blockSq_top (i := i) (j := j) (bin_lt (gRow X (8 * (r + i) + a) (8 * (c + j) + b)) (gCol X (8 * (r + i) + a) (8 * (c + j) + b))) ?_
      unfold rHist
      rw [cellSum_top (rPart_nonneg X _) (i := a) (j := b) (by unfold rPart binAt; rw [if_pos rfl]; exact ht), div64, top_scaled]
    obtain ⟨e, he, hE⟩ := eps_pos
    rw [hk, hr, hE, EReal.top_add_coe, Ideal.rsqrt_top, Ideal.sqrt_top]
    simp [Ideal.div]

end Cert.Proof.Hog

end
-- ==== Proof.Tile.lean ====
/- One block's stores: 124 rows of one image's window row each, all the same chain of operations over five shared values.
   Read at an index, the whole block is `tileAt` of its image's five values. -/
module

public import Idealize.ShloMosaic.Lib.Pointwise
public import Idealize.ShloMosaic.Lib.Pipeline.ValueKit
public import proofs.«01_k».proof.Proof.Gen.KernelIdeal.Value

@[expose] public section

set_option maxRecDepth 16384

noncomputable section

open Idealize.ShloMosaic Idealize.ShloMosaic.TcCoe Idealize.SL.Sem
open Cert.KernelIdeal Cert.KernelIdeal.Gen

namespace Cert.Proof.Hog

/-- Column `k` of a row tile: 27 lanes from `s` on of each of the three shifted histograms, at cell column `c`. -/
def lane (h0 h1 h2 : FVec Ideal S64x576 .bf16) (s c k : ℕ) : EReal :=
  if k < 27 then h0 (ix2 (Fin.ofNat 64 c) (Fin.ofNat 576 (s + k)))
  else if k - 27 < 27 then h1 (ix2 (Fin.ofNat 64 c) (Fin.ofNat 576 (s + (k - 27))))
  else h2 (ix2 (Fin.ofNat 64 c) (Fin.ofNat 576 (s + (k - 27 - 27))))

/-- Row `r`'s tile at column `c`, feature `q`: the 81 lanes scaled and reordered by the table `P`. -/
def tileAt (nt : FVec Ideal S62x62 .f32) (h0 h1 h2 : FVec Ideal S64x576 .bf16) (P : FVec Ideal S81x81 .bf16)
    (r c q : ℕ) : EReal :=
  ∑ k : Fin 81, lane h0 h1 h2 (9 * r) c k * nt (ix2 (Fin.ofNat 62 c) (Fin.ofNat 62 r)) * P (ix2 k (Fin.ofNat 81 q))

theorem mk_eq_ofNat {n k : ℕ} [NeZero n] (h : k < n) : (⟨k, h⟩ : Fin n) = Fin.ofNat n k :=
  Fin.ext (Nat.mod_eq_of_lt h).symm

/-- One row's store, at its local index. -/
theorem row_at (nt : FVec Ideal S62x62 .f32) (a b c : FVec Ideal S64x576 .bf16) (P : FVec Ideal S81x81 .bf16)
    (s r : ℕ) (x : S1x1x62x81.Idx) (u v w : ℕ) (hr : s = 9 * u) (hu : u = r) (hv : v = (x 2 : ℕ)) (hw : w = (x 3 : ℕ))
    (h1 : S64x576.Slices ![0, s] S62x27) (h2 : S62x62.Slices ![0, r] S62x1) :
    shapeCast S1x1x62x81 (matmul dot_S62x81_S81x81_S62x81_1_0_0_1_n_n none
      (mulf (concatenate S62x81 1 [⟨S62x27, extractStridedSlice S62x27 ![0, s] a h1⟩,
          ⟨S62x27, extractStridedSlice S62x27 ![0, s] b h1⟩, ⟨S62x27, extractStridedSlice S62x27 ![0, s] c h1⟩]
          concatenates_S62x27_S62x27_S62x27_S62x81_d1)
        (broadcastTo S62x81 (truncf .bf16 (extractStridedSlice S62x1 ![0, r] nt h2) bitsLt_bf16_f32) broadcasts_S62x1_S62x81))
      P (constant S62x81 .f32 0x00000000#32)) shapeCasts_S62x81_S1x1x62x81 x = tileAt nt a b c P u v w := by
  subst hu hv hw hr
  pointwise
  unfold tileAt lane
  refine Finset.sum_congr rfl fun k _ => ?_
  simp only [mk_eq_ofNat, dite_eq_ite]
  have e2 : (x 2 : Fin 62) = Fin.ofNat 62 (x 2).val := mk_eq_ofNat (n := 62) (x 2).isLt
  have e3 : (x 3 : Fin 81) = Fin.ofNat 81 (x 3).val := mk_eq_ofNat (n := 81) (x 3).isLt
  exact congrArg₂ (fun i j => _ * nt (ix2 i _) * P (ix2 k j)) e2 e3

set_option maxHeartbeats 2000000 in
/-- The block that one grid point writes, at an index. -/
theorem out_at (x0 : Vec Ideal S2x512x512 .f32) (x1 : Vec Ideal S576x576 .bf16) (x2 : Vec Ideal S81x81 .bf16) (y : S2x62x62x81.Idx) :
    out0_3 x0 x1 x2 y = if (y 0).val = 0
      then tileAt (k0_pay269 x0 x1 x2) (k0_pay270 x0 x1 x2) (k0_pay274 x0 x1 x2) (k0_pay275 x0 x1 x2) (k0_pay276 x0 x1 x2)
        (y 1).val (y 2).val (y 3).val
      else tileAt (k0_pay307 x0 x1 x2) (k0_pay308 x0 x1 x2) (k0_pay309 x0 x1 x2) (k0_pay310 x0 x1 x2) (k0_pay311 x0 x1 x2)
        (y 1).val (y 2).val (y 3).val := by
  canon_tiles x h using cover0_3 ..
  case piece121 | piece122 | piece123 =>
    rw [if_pos (by omega)]
    exact row_at (k0_pay269 x0 x1 x2) (k0_pay270 x0 x1 x2) (k0_pay274 x0 x1 x2) (k0_pay275 x0 x1 x2) (k0_pay276 x0 x1 x2)
      _ _ x _ _ _ (by omega) (by omega) (by omega) (by omega) _ _
  all_goals first
    | rw [if_neg (by omega)]
      open_payloads_core
      exact row_at (k0_pay307 x0 x1 x2) (k0_pay308 x0 x1 x2) (k0_pay309 x0 x1 x2) (k0_pay310 x0 x1 x2) (k0_pay311 x0 x1 x2)
        _ _ x _ _ _ (by omega) (by omega) (by omega) (by omega) _ _
    | rw [if_pos (by omega)]
      open_payloads_core
      exact row_at (k0_pay269 x0 x1 x2) (k0_pay270 x0 x1 x2) (k0_pay274 x0 x1 x2) (k0_pay275 x0 x1 x2) (k0_pay276 x0 x1 x2)
        _ _ x _ _ _ (by omega) (by omega) (by omega) (by omega) _ _

end Cert.Proof.Hog

end
-- ==== Proof.KernelRead.lean ====
/- The gradients, slopes, bins and histograms of one image, as the kernel computes them, read at an index. -/
module

public import Idealize.ShloMosaic.Lib.Pointwise
public import proofs.«01_k».proof.Proof.Stages
public import proofs.«01_k».proof.Proof.Cells
public import proofs.«01_k».proof.Proof.Tile

@[expose] public section

set_option maxRecDepth 16384

noncomputable section

open Idealize.ShloMosaic Idealize.ShloMosaic.TcCoe Idealize.SL.Sem
open Cert.KernelIdeal Cert.KernelIdeal.Gen

namespace Cert.Proof.Hog

/-- The image's values: the square roots of what was loaded. -/
def imgOf (v : FVec Ideal S1x512x512 .f32) (y x : ℕ) : EReal := Ideal.sqrt (v (ix3 0 (Fin.ofNat 512 y) (Fin.ofNat 512 x)))

theorem val_eq_ofNat {n : ℕ} [NeZero n] (k : Fin n) : k = Fin.ofNat n k.val := mk_eq_ofNat k.isLt

/-- The border test on words: position minus one, unsigned, is at least 510 on the first and the last row. -/
theorem border_word : ∀ y : Fin 512,
    IntOp.cmpi .uge (IntOp.subi (BitVec.ofNat 32 y.val) 1#32) 510#32 = if y.val = 0 ∨ y.val = 511 then 1#1 else 0#1 := by
  decide +kernel

theorem img_read (v : FVec Ideal S1x512x512 .f32) (a b : Fin 512) (m n : ℕ) (ha : a.val = m) (hb : b.val = n) :
    Ideal.sqrt (v (ix3 0 a b)) = imgOf v m n := by
  subst ha hb; unfold imgOf; rw [← val_eq_ofNat, ← val_eq_ofNat]

/-- A central difference that is zero at the border, as the comparison on words selects it. -/
theorem diff_at (n : Fin 512) (A : n.val < 511 → EReal) (B : ¬ n.val < 1 → EReal) (a b : EReal)
    (hA : n.val ≠ 511 → ∀ h, A h = a) (hB : n.val ≠ 0 → ∀ h, B h = b) :
    Scalar.select (IntOp.cmpi .uge (IntOp.subi (BitVec.ofNat 32 n.val) 1#32) 510#32) 0
      ((if h : n.val < 511 then A h else 0) - if h : n.val < 1 then 0 else B h)
      = if n.val = 0 ∨ n.val = 511 then 0 else a - b := by
  rw [border_word]
  by_cases h : n.val = 0 ∨ n.val = 511
  · rw [if_pos h, if_pos h]; rfl
  · rw [if_neg h, if_neg h]
    push Not at h
    rw [dif_pos (by omega), dif_neg (by omega), hA h.2, hB h.1]; rfl

theorem row_diff (v : FVec Ideal S1x512x512 .f32) (y x : Fin 512) :
    k0_pay3 (F := Ideal) v (ix2 y x) = gRow (imgOf v) y x := by
  pointwise [k0_pay3, k0_pay2]
  exact diff_at y _ _ _ _ (fun _ h => img_read v _ _ _ _ (Nat.add_comm _ _) rfl) (fun _ h => img_read v _ _ _ _ rfl rfl)

theorem col_diff (v : FVec Ideal S1x512x512 .f32) (y x : Fin 512) :
    k0_pay4 (F := Ideal) v (ix2 y x) = gCol (imgOf v) y x := by
  pointwise [k0_pay4, k0_pay2]
  exact diff_at x _ _ _ _ (fun _ h => img_read v _ _ _ _ rfl (Nat.add_comm _ _)) (fun _ h => img_read v _ _ _ _ rfl rfl)

theorem mag_at (v : FVec Ideal S1x512x512 .f32) (y x : Fin 512) :
    k0_pay5 (F := Ideal) v (ix2 y x) = magAt (imgOf v) y x := by
  pointwise [k0_pay5]
  rw [row_diff, col_diff]; rfl

theorem inf_word : Ideal.ofBits .f32 0x7F800000#32 = ⊤ := by simp [Ideal.ofBits, Ideal.ieee]

theorem slopeV_at (v : FVec Ideal S1x512x512 .f32) (y x : Fin 512) :
    slopeV v (ix2 y x) = slope (gRow (imgOf v) y x) (gCol (imgOf v) y x) := by
  pointwise [slopeV, k0_pay10, k0_pay7, k0_pay8, k0_pay9, k0_pay6]
  rw [row_diff, col_diff, inf_word]; rfl

/-- The named angles. -/
theorem edgeAngle_eq (k : Fin 8) : edgeAngle k = ((((k.val + 1 : ℕ) : ℝ) / 9 * Real.pi : ℝ) : EReal) := by
  fin_cases k
  all_goals
    refine (IdealRules.named_const.ideal_named_scalar _ _ _ _ rfl).trans ?_
    refine congrArg _ ?_
    push_cast
    ring

theorem pastV_at (v : FVec Ideal S1x512x512 .f32) (y x : Fin 512) (k : Fin 8) :
    pastV v k (ix2 y x) = BitVec.ofBool (past (k.val + 1) (gRow (imgOf v) y x) (gCol (imgOf v) y x)) := by
  pointwise [pastV]
  rw [slopeV_at, edgeAngle_eq, past, if_neg (by omega), if_neg (by omega)]

theorem xor_bool (a b : Bool) : IntOp.xori (BitVec.ofBool a) (BitVec.ofBool b) = BitVec.ofBool (xor a b) := by
  cases a <;> cases b <;> rfl

theorem binV_at (v : FVec Ideal S1x512x512 .f32) (y x : Fin 512) (o : Fin 9) :
    binV v o (ix2 y x) = BitVec.ofBool (inAt (imgOf v) o y x) := by
  have mid : ∀ k : Fin 7, IntOp.xori (pastV v k.castSucc (ix2 y x)) (pastV v k.succ (ix2 y x))
      = BitVec.ofBool (inAt (imgOf v) (k.val + 1) y x) := by
    intro k; rw [pastV_at, pastV_at, xor_bool]; rfl
  have first : IntOp.xori (pastV v 0 (ix2 y x)) 1#1 = BitVec.ofBool (inAt (imgOf v) 0 y x) := by
    rw [pastV_at]; exact (xor_bool _ true).trans (by rw [Bool.xor_comm]; rfl)
  have last : pastV v 7 (ix2 y x) = BitVec.ofBool (inAt (imgOf v) 8 y x) := by
    rw [pastV_at]; unfold inAt inBin; rw [show past (8 + 1) _ _ = false from rfl, Bool.xor_false]; rfl
  fin_cases o
  exacts [first, mid 0, mid 1, mid 2, mid 3, mid 4, mid 5, mid 6, last]

/-- The quotient by 8 on words. -/
theorem eighth_word : ∀ y : Fin 512,
    Scalar.select
          (IntOp.andi
            (IntOp.cmpi CmpIPredicate.ne
              (IntOp.subi (BitVec.setWidth 32 (IntOp.cmpi CmpIPredicate.sgt (BitVec.ofNat 32 y.val) 0#32))
                (BitVec.setWidth 32 (IntOp.cmpi CmpIPredicate.slt (BitVec.ofNat 32 y.val) 0#32)))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 y.val) 8#32) 0#32))
          (IntOp.subi (IntOp.divsi ArithUnit.vector (BitVec.ofNat 32 y.val) 8#32) 1#32)
          (IntOp.divsi ArithUnit.vector (BitVec.ofNat 32 y.val) 8#32) = BitVec.ofNat 32 (y.val / 8) := by
  decide +kernel

/-- Words below their modulus are equal when the numbers are. -/
theorem eq_bit {a b : ℕ} (ha : a < 4294967296) (hb : b < 4294967296) :
    IntOp.cmpi .eq (BitVec.ofNat 32 a) (BitVec.ofNat 32 b) = BitVec.ofBool (decide (a = b)) := by
  by_cases h : a = b
  · subst h; simp [IntOp.cmpi]
  · have : BitVec.ofNat 32 a ≠ BitVec.ofNat 32 b := by
      intro e; apply h; have := congrArg BitVec.toNat e; simpa [Nat.mod_eq_of_lt ha, Nat.mod_eq_of_lt hb] using this
    simp only [IntOp.cmpi, beq_eq_false_iff_ne.mpr this, h, decide_false]

theorem select_bit (p : Bool) (x y : EReal) : Scalar.select (BitVec.ofBool p) x y = if p then x else y := by
  cases p <;> rfl

theorem eq_word {a b : ℕ} (ha : a < 4294967296) (hb : b < 4294967296) (x y : EReal) :
    Scalar.select (IntOp.cmpi .eq (BitVec.ofNat 32 a) (BitVec.ofNat 32 b)) x y = if a = b then x else y := by
  rw [eq_bit ha hb, select_bit]; simp only [decide_eq_true_eq]

theorem pool_at (y : Fin 512) (c : Fin 64)  :
    k0_pay11 (F := Ideal) (ix2 y c) = if y.val / 8 = c.val then 1 else 0 := by
  pointwise [k0_pay11]
  rw [eighth_word, eq_word (by omega) (by omega)]

/-- A sum over 512 positions that keeps one run of eight is the sum over the run. -/
theorem sum_run (f : ℕ → EReal) (c : Fin 64) :
    ∑ k : Fin 512, (if k.val / 8 = c.val then f k else 0) = ∑ j : Fin 8, f (8 * c + j) := by
  rw [← Finset.sum_filter]
  refine Finset.sum_bij' (fun k _ => ⟨k.val % 8, by omega⟩) (fun j _ => ⟨8 * c.val + j.val, by omega⟩) ?_ ?_ ?_ ?_ ?_
  all_goals simp [Finset.mem_filter, Fin.ext_iff]
  all_goals intros
  all_goals first | omega | (congr 1; omega)

theorem sixtyfourth_word : Ideal.ofBits .f32 0x3C800000#32 = ((1 / 64 : ℝ) : EReal) := by
  simp [Ideal.ofBits, Ideal.ieee, -EReal.coe_mul]; norm_num

theorem meanV_at (m : FVec Ideal S512x512 .bf16) (b : IVec S512x512 1) (f : ℕ → ℕ → EReal) (β : ℕ → ℕ → Bool)
    (hm : ∀ y x : Fin 512, m (ix2 y x) = f y x) (hb : ∀ y x : Fin 512, b (ix2 y x) = BitVec.ofBool (β y x)) (r c : Fin 64)  :
    meanV m b (ix2 r c) = cellSum (fun y x => if β y x then f y x else 0) r c * ((1 / 64 : ℝ) : EReal) := by
  pointwise [meanV]
  rw [sixtyfourth_word]
  congr 1
  unfold cellSum
  refine Finset.sum_congr rfl fun i _ => ?_
  rw [← sum_run (fun x => if β (8 * r + i) x then f (8 * r + i) x else 0)]
  refine Finset.sum_congr rfl fun k _ => ?_
  rw [hm, hb, pool_at]
  simp only [mul_comm (r : ℕ) 8]
  cases β (8 * r + i) k <;> by_cases h : k.val / 8 = c.val <;> simp [h, Scalar.select]

theorem histV_at (v : FVec Ideal S1x512x512 .f32) (o : Fin 9) (r c : Fin 64) :
    histV v o (ix2 r c) = kHist (imgOf v) o r c :=
  meanV_at _ _ _ _ (mag_at v) (fun y x => binV_at v y x o) r c

end Cert.Proof.Hog

end
-- ==== Proof.BlockRead.lean ====
/- What one image's rows hold: the shared values of the image read at an index, and the tile of a row, which is the kernel's
   result `kOut` of the image, given what the two tables hold. -/
module

public import Idealize.ShloMosaic.Lib.Pointwise
public import proofs.«01_k».proof.Proof.KernelRead
public import proofs.«01_k».proof.Proof.Tile

@[expose] public section

set_option maxRecDepth 16384

noncomputable section

open Idealize.ShloMosaic Idealize.ShloMosaic.TcCoe Idealize.SL.Sem
open Cert.KernelIdeal Cert.KernelIdeal.Gen

namespace Cert.Proof.Hog

/-- A product with an identity table keeps one term. -/
theorem pick {n : ℕ} (hn : n ≤ 4294967296) (c : Fin n) (f : Fin n → EReal) :
    ∑ x : Fin n, Scalar.select (IntOp.cmpi .eq (BitVec.ofNat 32 c.val) (BitVec.ofNat 32 x.val)) (f x) 0 = f c := by
  rw [Finset.sum_eq_single c]
  · rw [eq_word (by omega) (by omega), if_pos rfl]
  · intro x _ hx
    rw [eq_word (by omega) (by omega), if_neg (fun e => hx (Fin.ext e.symm))]
  · intro h; exact absurd (Finset.mem_univ c) h

theorem sqV_at (h : Fin 9 → FVec Ideal S64x64 .f32) (r c : Fin 64) : sqV h (ix2 r c) = ∑ o : Fin 9, h o (ix2 r c) * h o (ix2 r c) := by
  pointwise [sqV]
  simp only [Fin.sum_univ_castSucc, Fin.sum_univ_zero, zero_add]
  rfl

theorem normV_at (v : FVec Ideal S1x512x512 .f32) (c r : Fin 62) :
    normV (sqV (histV v)) (ix2 c r) = Ideal.rsqrt (blockSq (kHist (imgOf v)) r c + eps) := by
  pointwise [normV, k0_pay36]
  refine (pick (by decide) c _).trans ?_
  unfold blockSq eps
  simp only [sqV_at, histV_at, Fin.sum_univ_three, add_assoc]
  simp only [Fin.val_zero, Fin.val_one, Fin.val_two, add_zero, Nat.add_comm 1, Nat.add_comm 2]

/-- What the lane table holds. -/
def LaneTable (W : FVec Ideal S576x576 .bf16) : Prop :=
  ∀ m n : Fin 576, W (ix2 m n) = if n.val = 64 * (m.val % 9) + m.val / 9 then 1 else 0

/-- What the feature table holds. -/
def FeatureTable (P : FVec Ideal S81x81 .bf16) : Prop :=
  ∀ k q : Fin 81, P (ix2 k q) = if k.val = 27 * (q.val / 9 % 3) + 9 * (q.val / 27) + q.val % 9 then 1 else 0

theorem hitV_at (h : Fin 9 → FVec Ideal S64x64 .f32) (W : FVec Ideal S576x576 .bf16) (hW : LaneTable W) (c : Fin 64) (m : Fin 576) :
    hitV h W (ix2 c m) = h ⟨m.val % 9, by omega⟩ (ix2 ⟨m.val / 9, by omega⟩ c) := by
  pointwise [hitV, k0_pay37]
  refine (pick (by decide) c _).trans ?_
  rw [Finset.sum_eq_single (⟨64 * (m.val % 9) + m.val / 9, by omega⟩ : Fin 576)]
  · rw [hW, if_pos rfl, one_mul]
    have key : ∀ (o : Fin 9) (r : Fin 64), o.val = m.val % 9 → r.val = m.val / 9 →
        h o (ix2 r c) = h ⟨m.val % 9, by omega⟩ (ix2 ⟨m.val / 9, by omega⟩ c) := by
      intro o r ho hr
      exact congrArg₂ (fun a b => h a (ix2 b c)) (Fin.ext ho) (Fin.ext hr)
    have hk : (⟨64 * (m.val % 9) + m.val / 9, by omega⟩ : Fin 576).val = 64 * (m.val % 9) + m.val / 9 := rfl
    generalize (⟨64 * (m.val % 9) + m.val / 9, by omega⟩ : Fin 576) = k at hk ⊢
    repeat' split
    all_goals refine key _ _ ?_ ?_
    all_goals simp only [Fin.val_zero, Fin.val_one, Fin.val_two, Fin.isValue, Fin.coe_ofNat_eq_mod]
    all_goals omega
  · intro x _ hx
    rw [hW, if_neg (fun e => hx (Fin.ext e)), zero_mul]
  · intro h; exact absurd (Finset.mem_univ _) h

theorem hit1V_at (t : FVec Ideal S64x576 .bf16) (c : Fin 64) (m : Fin 576) (hc : c.val < 63) :
    hit1V t (ix2 c m) = t (ix2 ⟨c.val + 1, by omega⟩ m) := by
  pointwise [hit1V, k0_pay41, k0_pay40, k0_pay38]
  rw [dif_pos hc]
  simp only [Nat.add_comm 1]

theorem hit2V_at (t : FVec Ideal S64x576 .bf16) (c : Fin 64) (m : Fin 576) (hc : c.val < 62) :
    hit2V t (ix2 c m) = t (ix2 ⟨c.val + 2, by omega⟩ m) := by
  pointwise [hit2V, k0_pay42, k0_pay38]
  rw [dif_pos hc]
  simp only [Nat.add_comm 2]

theorem pay43_eq (t : FVec Ideal S81x81 .bf16) : k0_pay43 (F := Ideal) t = t := by
  funext j
  pointwise [k0_pay43]

/-- The histograms by cell column and lane, as numbers. -/
theorem hit_at (v : FVec Ideal S1x512x512 .f32) (W : FVec Ideal S576x576 .bf16) (hW : LaneTable W) (c : Fin 64) (m : ℕ) (hm : m < 576) :
    hitV (histV v) W (ix2 c ⟨m, hm⟩) = kHist (imgOf v) (m % 9) (m / 9) c := by
  rw [hitV_at _ _ hW, histV_at]

/-- A row's tile is the kernel's result of the image. -/
theorem tile_eq (v : FVec Ideal S1x512x512 .f32) (W : FVec Ideal S576x576 .bf16) (P : FVec Ideal S81x81 .bf16)
    (hW : LaneTable W) (hP : FeatureTable P) {r c q : ℕ} (hr : r < 62) (hc : c < 62) (hq : q < 81) :
    tileAt (normV (sqV (histV v))) (hitV (histV v) W) (hit1V (hitV (histV v) W)) (hit2V (hitV (histV v) W)) (k0_pay43 (F := Ideal) P) r c q
      = kOut (imgOf v) r c q := by
  unfold tileAt
  rw [pay43_eq, ← mk_eq_ofNat (n := 81) hq, ← mk_eq_ofNat (n := 62) hr, ← mk_eq_ofNat (n := 62) hc,
    Finset.sum_eq_single (⟨27 * (q / 9 % 3) + 9 * (q / 27) + q % 9, by omega⟩ : Fin 81)]
  · rw [hP, if_pos rfl, mul_one, normV_at]
    unfold kOut lane
    congr 1
    have hk : (⟨27 * (q / 9 % 3) + 9 * (q / 27) + q % 9, by omega⟩ : Fin 81).val = 27 * (q / 9 % 3) + 9 * (q / 27) + q % 9 := rfl
    generalize (⟨27 * (q / 9 % 3) + 9 * (q / 27) + q % 9, by omega⟩ : Fin 81) = k at hk ⊢
    have e : ∀ (m c' : ℕ) (hm : m < 576) (hc' : c' < 64), m = 9 * r + 9 * (q / 27) + q % 9 → c' = c + q / 9 % 3 →
        hitV (histV v) W (ix2 ⟨c', hc'⟩ ⟨m, hm⟩) = kHist (imgOf v) (q % 9) (r + q / 27) (c + q / 9 % 3) := by
      intro m c' hm hc' h1 h2
      subst h2
      rw [hit_at v W hW, show m % 9 = q % 9 by omega, show m / 9 = r + q / 27 by omega]
    rcases (by omega : q / 9 % 3 = 0 ∨ q / 9 % 3 = 1 ∨ q / 9 % 3 = 2) with hj | hj | hj
    · rw [if_pos (by omega), ← mk_eq_ofNat (n := 64) (by omega), ← mk_eq_ofNat (n := 576) (by omega)]
      exact e _ _ _ _ (by omega) (by omega)
    · rw [if_neg (by omega), if_pos (by omega), ← mk_eq_ofNat (n := 64) (by omega),
        ← mk_eq_ofNat (n := 576) (by omega), hit1V_at _ _ _ (by dsimp only; omega)]
      exact e _ _ _ _ (by omega) (by dsimp only; omega)
    · rw [if_neg (by omega), if_neg (by omega), ← mk_eq_ofNat (n := 64) (by omega),
        ← mk_eq_ofNat (n := 576) (by omega), hit2V_at _ _ _ (by dsimp only; omega)]
      exact e _ _ _ _ (by omega) (by dsimp only; omega)
  · intro x _ hx
    rw [hP, if_neg (fun e => hx (Fin.ext e)), mul_zero]
  · intro h; exact absurd (Finset.mem_univ _) h

/-- THE BLOCK: what one grid point writes is the kernel's result of the block's two images. -/
theorem out_eq (x0 : Vec Ideal S2x512x512 .f32) (x1 : Vec Ideal S576x576 .bf16) (x2 : Vec Ideal S81x81 .bf16)
    (hW : LaneTable (tabE x1)) (hP : FeatureTable (tabP x2)) (y : S2x62x62x81.Idx) :
    out0_3 x0 x1 x2 y
      = kOut (imgOf (if (y 0).val = 0 then img0 x0 else img1 x0)) (y 1).val (y 2).val (y 3).val := by
  have h1 : (y 1).val < 62 := (y 1).isLt
  have h2 : (y 2).val < 62 := (y 2).isLt
  have h3 : (y 3).val < 81 := (y 3).isLt
  rw [out_at, norm0, norm1, hit0, hit1, hit0_1, hit1_1, hit0_2, hit1_2, perm0, perm1, tile_eq _ _ _ hW hP h1 h2 h3,
    tile_eq _ _ _ hW hP h1 h2 h3]
  split <;> rfl

end Cert.Proof.Hog

end
-- ==== Proof.Tables.lean ====
/- What the kernel's windows hold: the two tables the host builds, and the images of the argument. -/
module

public import Idealize.ShloMosaic.Lib.StableHlo.ReadAt
public import proofs.«01_k».proof.Proof.BlockRead

@[expose] public section

set_option maxRecDepth 16384

noncomputable section

open Idealize.ShloMosaic Idealize.ShloMosaic.TcCoe Idealize.SL.Sem
open Cert.KernelIdeal Cert.KernelIdeal.Gen

namespace Cert.Proof.Hog

theorem and_bit (p q : Bool) : IntOp.andi (BitVec.ofBool p) (BitVec.ofBool q) = BitVec.ofBool (p && q) := by
  cases p <;> cases q <;> rfl

theorem lane_words : ∀ a : Fin 576, (IntOp.divsi ArithUnit.host (BitVec.ofNat 32 a.val) 9#32 = BitVec.ofNat 32 (a.val / 9)
    ∧ IntOp.remsi ArithUnit.host (BitVec.ofNat 32 a.val) 9#32 = BitVec.ofNat 32 (a.val % 9))
    ∧ (IntOp.divsi ArithUnit.host (BitVec.ofNat 32 a.val) 64#32 = BitVec.ofNat 32 (a.val / 64)
    ∧ IntOp.remsi ArithUnit.host (BitVec.ofNat 32 a.val) 64#32 = BitVec.ofNat 32 (a.val % 64)) := by decide +kernel

theorem feature_words : ∀ a : Fin 81, (IntOp.divsi ArithUnit.host (BitVec.ofNat 32 a.val) 27#32 = BitVec.ofNat 32 (a.val / 27)
    ∧ IntOp.remsi ArithUnit.host (BitVec.ofNat 32 a.val) 9#32 = BitVec.ofNat 32 (a.val % 9)
    ∧ IntOp.divsi ArithUnit.host (BitVec.ofNat 32 a.val) 9#32 = BitVec.ofNat 32 (a.val / 9))
    ∧ IntOp.remsi ArithUnit.host (BitVec.ofNat 32 (a.val / 9)) 3#32 = BitVec.ofNat 32 (a.val / 9 % 3) := by decide +kernel

variable (m : (ℓ : Loc nD τ sig) → Buf (Elt Ideal) ℓ) (c : Dev nD)

theorem V_image (b : Fin 32) (y x : Fin 512) :
    V m c main_v0 (ix3 b y x) = m ((c : Thread nD τ).loc main_arg0) (ix4 b 0 y x) := by
  unfold V
  after_reads_at

theorem V_lane (a b : Fin 576) : V m c main_v15 (ix2 a b) = if b.val = 64 * (a.val % 9) + a.val / 9 then (1 : EReal) else 0 := by
  unfold V
  after_reads_at
  rw [(lane_words a).1.1, (lane_words a).1.2, (lane_words b).2.1, (lane_words b).2.2, eq_bit (by omega) (by omega),
    eq_bit (by omega) (by omega), and_bit, select_bit]
  refine if_congr ?_ rfl rfl
  rw [Bool.and_eq_true, decide_eq_true_iff, decide_eq_true_iff]
  omega

theorem V_feature (k q : Fin 81) : V m c main_v40 (ix2 k q)
    = if k.val = 27 * (q.val / 9 % 3) + 9 * (q.val / 27) + q.val % 9 then (1 : EReal) else 0 := by
  unfold V
  after_reads_at
  rw [(feature_words k).1.1, (feature_words k).1.2.1, (feature_words k).1.2.2, (feature_words k).2, (feature_words q).1.1,
    (feature_words q).1.2.1, (feature_words q).1.2.2, (feature_words q).2, eq_bit (by omega) (by omega), eq_bit (by omega) (by omega),
    eq_bit (by omega) (by omega), and_bit, and_bit, select_bit]
  refine if_congr ?_ rfl rfl
  simp only [Bool.and_eq_true, decide_eq_true_iff]
  omega

/-- The index maps: two images per point, the tables whole. -/
theorem index_maps : ∀ t : Fin cfg0.N, win0_0.index t = ![t.val, 0, 0] ∧ win0_1.index t = ![0, 0] ∧ win0_2.index t = ![0, 0]
    ∧ win0_3.index t = ![t.val, 0, 0, 0] ∧ t.val < 16 := (by decide +kernel : ∀ t : Fin grid0.N, _)

theorem lane_block (t : Fin cfg0.N) : LaneTable (tabE (iblk m c 1 t)) := by
  intro a b
  refine Eq.trans ?_ (V_lane m c a b)
  pointwise [tabE]
  blk_ext [iblk, index_maps t]

theorem feature_block (t : Fin cfg0.N) : FeatureTable (tabP (iblk m c 2 t)) := by
  intro a b
  refine Eq.trans ?_ (V_feature m c a b)
  pointwise [tabP]
  blk_ext [iblk, index_maps t]

/-- The image of batch member `b`: the square roots of the argument's pixels. -/
def argImg (A : FVec Ideal S32x1x512x512 .f32) (b : Fin 32) (y x : ℕ) : EReal :=
  Ideal.sqrt (A (ix4 b 0 (Fin.ofNat 512 y) (Fin.ofNat 512 x)))

theorem image_block (t : Fin cfg0.N) (i : Fin 2) (y x : ℕ) (b : Fin 32) (hb : b.val = 2 * t.val + i.val) :
    imgOf (if i.val = 0 then img0 (iblk m c 0 t) else img1 (iblk m c 0 t)) y x
      = argImg (m ((c : Thread nD τ).loc main_arg0)) b y x := by
  unfold imgOf argImg
  refine congrArg Ideal.sqrt ?_
  refine Eq.trans ?_ (V_image m c b _ _)
  generalize Fin.ofNat 512 y = y'
  generalize Fin.ofNat 512 x = x'
  split
  · pointwise [img0]
    blk_ext [iblk, index_maps t]
  · pointwise [img1]
    blk_ext [iblk, index_maps t]

/-- The kernel's result, index by index. -/
def kernelResult (A : FVec Ideal S32x1x512x512 .f32) : FVec Ideal S32x62x62x81 .f32 :=
  fun i => kOut (argImg A (i 0)) (i 1).val (i 2).val (i 3).val

/-- THE ARRAY after the run. -/
theorem final : (dats m 0 c).arrAt 3 (cfgs 0).N = kernelResult (m ((c : Thread nD τ).loc main_arg0)) := by
  refine (dats m 0 c).arrAt_eq_of_covers 3 _ (by decide +kernel) fun t _ y => ?_
  blk_simp
  rw [after0_3]
  have h0 : (y 0).val < 2 := (y 0).isLt
  have e : ∀ b : Fin 32, b.val = 2 * t.val + (y 0).val →
      imgOf (if (y 0).val = 0 then img0 (iblk m c 0 t) else img1 (iblk m c 0 t)) = argImg (m ((c : Thread nD τ).loc main_arg0)) b :=
    fun b hb => funext fun p => funext fun q => image_block m c t ⟨(y 0).val, h0⟩ p q b hb
  refine (out_eq _ _ _ (lane_block m c t) (feature_block m c t) y).trans ?_
  unfold kernelResult
  rw [e (((win0_3.blk t).view.emb y) 0) (by blk_simp [index_maps t]; omega)]
  congr 1 <;> blk_simp [index_maps t] <;> omega

end Cert.Proof.Hog

end
-- ==== Proof.Pixels.lean ====
/- The reference's pixels: gradients, magnitude and angle bin of an image, and the bin of the histograms that a pixel goes
   to, read at an index. -/
module

public import Idealize.ShloMosaic.Lib.Pointwise
public import proofs.«01_k».proof.Proof.Tables
public import proofs.«01_k».proof.Proof.Gen.ReferenceIdeal.Read

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Proof.Hog

variable (A : FVec Ideal S32x1x512x512 .f32)

theorem root_at (b : Fin 32) (y x : Fin 512) {p q : ℕ} (hp : y.val = p) (hq : x.val = q) :
    val_main_v1 (F := Ideal) A (ix3 b y x) = argImg A b p q := by
  subst hp hq
  pointwise [val_main_v1, val_main_v0]
  unfold argImg
  rw [← val_eq_ofNat, ← val_eq_ofNat]

/-- A difference joined between two border lines of zeros. -/
theorem border_at (n : Fin 512) (D : n.val - 1 < 510 → EReal) (d : EReal) (hD : n.val ≠ 0 → ∀ h, D h = d) :
    (if _h : n.val < 1 then (0 : EReal) else if h : n.val - 1 < 510 then D h else 0) = if n.val = 0 ∨ n.val = 511 then 0 else d := by
  by_cases h : n.val = 0 ∨ n.val = 511
  · rw [if_pos h]
    split
    · rfl
    · rw [dif_neg (by omega)]
  · rw [if_neg h, dif_neg (by omega), dif_pos (by omega), hD (by omega)]

theorem refRow_at (b : Fin 32) (y x : Fin 512) : val_main_v6 (F := Ideal) A (ix3 b y x) = gRow (argImg A b) y x := by
  pointwise [val_main_v6, val_main_v2, val_main_v3, val_main_v4, val_main_v5, val_main_cst]
  exact border_at y _ _ fun hy h => congrArg₂ (fun a b : EReal => a - b)
    (root_at A b _ _ (by dsimp only; omega) rfl) (root_at A b _ _ rfl rfl)

theorem refCol_at (b : Fin 32) (y x : Fin 512) : val_main_v11 (F := Ideal) A (ix3 b y x) = gCol (argImg A b) y x := by
  pointwise [val_main_v11, val_main_v7, val_main_v8, val_main_v9, val_main_v10, val_main_cst_0]
  exact border_at x _ _ fun hx h => congrArg₂ (fun a b : EReal => a - b)
    (root_at A b _ _ rfl (by dsimp only; omega)) (root_at A b _ _ rfl rfl)

theorem refMag_at (b : Fin 32) (y x : Fin 512) : val_main_v15 (F := Ideal) A (ix3 b y x) = magAt (argImg A b) y x := by
  pointwise [val_main_v15, val_main_v14, val_main_v13, val_main_v12]
  rw [refRow_at, refCol_at]; rfl

theorem word_neg_one : Ideal.ofBits .f32 0xBF800000#32 = ((-1 : ℝ) : EReal) := by
  simp [Ideal.ofBits, Ideal.ieee, -EReal.coe_mul]; norm_num
theorem word_180 : Ideal.ofBits .f32 0x43340000#32 = ((180 : ℝ) : EReal) := by
  simp [Ideal.ofBits, Ideal.ieee, -EReal.coe_mul]; norm_num
theorem word_20 : Ideal.ofBits .f32 0x41A00000#32 = ((20 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num

theorem refBin_at (b : Fin 32) (y x : Fin 512) :
    val_main_v27 (F := Ideal) A (ix3 b y x) = binWord (gRow (argImg A b) y x) (gCol (argImg A b) y x) := by
  pointwise [val_main_v27, val_main_call1_v4, val_main_call1_v3, val_main_call1_v2, val_main_call1_v1, val_main_call1_v0,
    val_main_c, val_main_c_5, val_main_v26, val_main_v25, val_main_v24, val_main_v23, val_main_cst_4, val_main_v22,
    val_main_call0_v12, val_main_call0_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_cst, val_main_call0_cst_0, val_main_call0_cst_1, val_main_cst_3, val_main_v21,
    val_main_v20, val_main_v19, val_main_v18, val_main_v17, val_main_v16, val_main_cst_1, val_main_cst_2, id]
  rw [refRow_at, refCol_at, word_neg_one, word_180, word_20]; rfl

theorem refEighth_word : ∀ y : Fin 512, val_main_v29 (F := Ideal) (ix1 y) = BitVec.ofNat 32 (y.val / 8) := by
  intro y
  pointwise [val_main_v29, val_main_call2_v13, val_main_call2_v12, val_main_call2_c_0, val_main_call2_v11, val_main_call2_v10,
    val_main_call2_v9, val_main_call2_c, val_main_call2_v8, val_main_call2_v7, val_main_call2_v6, val_main_call2_v5,
    val_main_call2_v4, val_main_call2_v3, val_main_call2_v2, val_main_call2_v1, val_main_call2_v0, val_main_v28, val_main_c_6, id]
  revert y
  decide +kernel

theorem refEighth_word' : val_main_v31 (F := Ideal) = val_main_v29 (F := Ideal) := rfl

theorem word_mul (a b : ℕ) : IntOp.muli (BitVec.ofNat 32 a) (BitVec.ofNat 32 b) = BitVec.ofNat 32 (a * b) :=
  (BitVec.ofNat_mul ..).symm
theorem word_add (a b : ℕ) : IntOp.addi (BitVec.ofNat 32 a) (BitVec.ofNat 32 b) = BitVec.ofNat 32 (a + b) :=
  (BitVec.ofNat_add ..).symm

/-- The number of the histogram bin that a pixel goes to. -/
def seg (X : ℕ → ℕ → EReal) (b y x : ℕ) : ℕ := (b * 4096 + y / 8 * 64 + x / 8) * 9 + binAt X y x

theorem seg_word (b : Fin 32) (y x : Fin 512) :
    val_main_v48 (F := Ideal) A (ix3 b y x) = BitVec.ofNat 32 (seg (argImg A b) b y x) := by
  pointwise [val_main_v48, val_main_v47, val_main_v46, val_main_c_10, val_main_v45, val_main_v44, val_main_v43, val_main_v42,
    val_main_v41, val_main_v40, val_main_v39, val_main_v38, val_main_v37, val_main_v36, val_main_v35, val_main_v34,
    val_main_v33, val_main_v32, val_main_c_8, val_main_c_9]
  rw [refEighth_word', refEighth_word, refEighth_word, refBin_at, word_mul, word_mul, word_add, word_add, word_mul]
  have : binWord (gRow (argImg A b) y x) (gCol (argImg A b) y x) = BitVec.ofNat 32 (binAt (argImg A b) y x) := by
    unfold binAt bin; rw [BitVec.ofNat_toNat, BitVec.setWidth_eq]
  rw [this, word_add]; rfl

theorem flat_word (p : Fin 8388608) :
    val_main_v52 (F := Ideal) A (ix2 p 0)
      = BitVec.ofNat 32 (seg (argImg A ⟨p.val / 262144, by omega⟩) (p.val / 262144) (p.val / 512 % 512) (p.val % 512)) := by
  rw [val_main_v52_apply]
  refine Eq.trans ?_ (seg_word A ⟨p.val / 262144, by omega⟩ ⟨p.val / 512 % 512, by omega⟩ ⟨p.val % 512, by omega⟩)
  have : ∀ q : Fin 8388608, q = p → val_main_v50 (F := Ideal) A (ix1 q)
      = val_main_v48 (F := Ideal) A (ix3 ⟨p.val / 262144, by omega⟩ ⟨p.val / 512 % 512, by omega⟩ ⟨p.val % 512, by omega⟩) := by
    intro q e; subst e
    pointwise [val_main_v50]
  exact this _ rfl

theorem flat_mag (p : Fin 8388608) :
    val_main_v49 (F := Ideal) A (ix1 p) = magAt (argImg A ⟨p.val / 262144, by omega⟩) (p.val / 512 % 512) (p.val % 512) := by
  refine Eq.trans ?_ (refMag_at A ⟨p.val / 262144, by omega⟩ ⟨p.val / 512 % 512, by omega⟩ ⟨p.val % 512, by omega⟩)
  pointwise [val_main_v49]

end Cert.Proof.Hog

end
-- ==== Proof.Scatter.lean ====
/- The reference's histograms: an element of the scattered array is the sum of one cell's pixels in one angle bin. -/
module

public import Idealize.ShloMosaic.Lib.Pointwise
public import Idealize.ShloMosaic.Lib.Pointwise.Sums
public import Idealize.ShloMosaic.Lib.Routing.OpsPair
public import proofs.«01_k».proof.Proof.Pixels

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Proof.Hog

/-- An accumulating scatter at an element. -/
theorem scatterAdd_at {s si su : Shape} {w : ℕ} (d : ScatterDims s si su) (x : FVec Ideal s .f32) (idx : IVec si w) (upd : FVec Ideal su .f32)
    (i : s.Idx) : Host.scatterAdd d x idx upd i = x i + ∑ j, if d.resultIdx? j idx = some i then upd j else 0 := by
  show x i + ∑ j ∈ Finset.univ.filter (fun j => d.resultIdx? j idx = some i), upd j = _
  rw [Finset.sum_filter]

/-- Where one index word per update names an element of a vector, the update lands at the element that the word names. -/
theorem lands {M N : ℕ} (d : ScatterDims ⟨1, ![M]⟩ ⟨2, ![N, 1]⟩ ⟨1, ![N]⟩) (hi : d.insertedWindowDims = [0])
    (ho : d.scatterDimsToOperandDims = [0]) (hv : d.indexVectorDim = 1) (idx : IVec ⟨2, ![N, 1]⟩ 32) (p : Fin N) (n : Fin M) :
    d.resultIdx? (ix1 p) idx = some (ix1 n) ↔ (idx (ix2 p 0)).toInt = (n.val : Int) := by
  rw [Routing.resultIdx?_eq_some]
  have hm : (0 : Fin 1) ∈ d.scatterDimsToOperandDims := by rw [ho]; exact List.mem_singleton.2 rfl
  have hw : d.window (ix1 p) 0 = 0 := by
    unfold ScatterDims.window
    rw [dif_neg fun h => (of_decide_eq_true (List.mem_filter.1 h).2) (by rw [hi]; exact List.mem_singleton.2 rfl)]
  have hs : d.start (ix1 p) idx 0 = (idx (ix2 p 0)).toInt := by
    unfold ScatterDims.start
    rw [dif_pos hm]
    refine congrArg (fun i => (idx i).toInt) (funext fun b => Fin.ext ?_)
    match b with
    | ⟨0, _⟩ =>
      unfold ScatterDims.siIdx
      rw [dif_neg (by rw [hv]; exact Nat.zero_ne_one)]
      unfold ScatterDims.siCoord
      have e : ∀ a : Fin 1, (ix1 p a).val = p.val := fun a => by rw [Subsingleton.elim a 0]; rfl
      exact e _
    | ⟨1, _⟩ => exact congrArg Fin.val (Subsingleton.elim (α := Fin 1) _ _)
  constructor
  · intro h
    have := h 0
    rw [hw, hs] at this
    simpa using this
  · intro h a
    obtain rfl : a = (0 : Fin 1) := Subsingleton.elim (α := Fin 1) _ _
    rw [hw, hs, h]
    simp

variable (A : FVec Ideal S32x1x512x512 .f32)

theorem seg_lt (X : ℕ → ℕ → EReal) {b y x : ℕ} (hb : b < 32) (hy : y < 512) (hx : x < 512) : seg X b y x < 1179648 := by
  have := bin_lt (gRow X y x) (gCol X y x)
  unfold seg binAt; omega

/-- What a pixel adds to element `n` of the scattered array. -/
def pixelTerm (n b y x : ℕ) : EReal :=
  if seg (argImg A (Fin.ofNat 32 b)) b y x = n then magAt (argImg A (Fin.ofNat 32 b)) y x else 0

theorem pixel_at (n : Fin 1179648) (p : Fin 8388608) {c : Prop} [Decidable c]
    (hc : c ↔ (val_main_v52 (F := Ideal) A (ix2 p 0)).toInt = (n.val : Int)) :
    (if c then val_main_v49 (F := Ideal) A (ix1 p) else 0) = pixelTerm A n.val (p.val / 262144) (p.val / 512 % 512) (p.val % 512) := by
  have hp := p.isLt
  have hl : p.val / 262144 < 32 := by omega
  have hb := seg_lt (argImg A (Fin.ofNat 32 (p.val / 262144))) (b := p.val / 262144) (y := p.val / 512 % 512) (x := p.val % 512)
    hl (by omega) (by omega)
  rw [flat_word, mk_eq_ofNat hl, BitVec.toInt_eq_toNat_of_lt (by rw [BitVec.toNat_ofNat]; omega), BitVec.toNat_ofNat] at hc
  rw [flat_mag, mk_eq_ofNat hl]
  unfold pixelTerm
  exact if_congr (hc.trans (by omega)) rfl rfl

/-- An element of the scattered array, as a sum over all pixels in a line. -/
theorem scatter_at (n : Fin 1179648) : val_main_v53 (F := Ideal) A (ix1 n)
    = ∑ p : Fin 8388608, pixelTerm A n.val (p.val / 262144) (p.val / 512 % 512) (p.val % 512) := by
  have h1 : val_main_v51 (F := Ideal) (ix1 n) = (0 : EReal) := by pointwise [val_main_v51, val_main_cst_11]
  unfold val_main_v53
  rw [scatterAdd_at, h1, zero_add, sum_idx1]
  refine Finset.sum_congr rfl fun p _ => ?_
  exact pixel_at A n p (lands _ rfl rfl rfl _ p n)

/-- A sum over all pixels in a line, of terms that are zero off one cell of one image. -/
theorem sum_one (f : ℕ → ℕ → ℕ → EReal) (b R C : ℕ) (hb : b < 32) (hR : R < 64) (hC : C < 64)
    (hf : ∀ b' y x, b' < 32 → y < 512 → x < 512 → ¬ (b' = b ∧ y / 8 = R ∧ x / 8 = C) → f b' y x = 0) :
    ∑ p : Fin 8388608, f (p.val / 262144) (p.val / 512 % 512) (p.val % 512) = cellSum (f b) R C := by
  rw [Fin.sum_univ_tiles 32 262144 rfl]
  dsimp only
  rw [Finset.sum_eq_single (⟨b, hb⟩ : Fin 32)]
  · dsimp only
    rw [Fin.sum_univ_tiles 64 4096 rfl]
    rw [Finset.sum_eq_single (⟨R, hR⟩ : Fin 64)]
    · dsimp only
      rw [Fin.sum_univ_tiles 8 512 rfl]
      unfold cellSum
      refine Finset.sum_congr rfl fun i _ => ?_
      rw [Fin.sum_univ_tiles 64 8 rfl]
      rw [Finset.sum_eq_single (⟨C, hC⟩ : Fin 64)]
      · refine Finset.sum_congr rfl fun j _ => ?_
        dsimp only
        congr 1 <;> omega
      · intro C' _ h
        refine Finset.sum_eq_zero fun j _ => hf _ _ _ (by omega) (by omega) (by omega) fun e => h (Fin.ext ?_)
        have := e.2.2; dsimp only at this ⊢; omega
      · intro h; exact absurd (Finset.mem_univ _) h
    · intro R' _ h
      refine Finset.sum_eq_zero fun t _ => hf _ _ _ (by omega) (by omega) (by omega) fun e => h (Fin.ext ?_)
      have := e.2.1; dsimp only at this ⊢; omega
    · intro h; exact absurd (Finset.mem_univ _) h
  · intro b' _ h
    refine Finset.sum_eq_zero fun t _ => hf _ _ _ (by omega) (by omega) (by omega) fun e => h (Fin.ext ?_)
    have := e.1; dsimp only at this ⊢; omega
  · intro h; exact absurd (Finset.mem_univ _) h

/-- The sum that one element takes is a sum over its cell. -/
theorem cell_eq (b : Fin 32) (R C : Fin 64) (o : Fin 9) (n : ℕ) (hn : n = ((b.val * 64 + R.val) * 64 + C.val) * 9 + o.val) :
    ∑ p : Fin 8388608, pixelTerm A n (p.val / 262144) (p.val / 512 % 512) (p.val % 512) = cellSum (rPart (argImg A b) o) R C := by
  rw [sum_one (pixelTerm A n) b R C b.isLt R.isLt C.isLt]
  · unfold cellSum
    refine Finset.sum_congr rfl fun i _ => Finset.sum_congr rfl fun j _ => ?_
    have := bin_lt (gRow (argImg A b) (8 * R.val + i.val) (8 * C.val + j.val)) (gCol (argImg A b) (8 * R.val + i.val) (8 * C.val + j.val))
    unfold pixelTerm rPart seg binAt
    rw [← val_eq_ofNat b]
    refine if_congr ?_ rfl rfl
    subst hn
    generalize bin _ _ = u at *
    omega
  · intro b' y x hb hy hx h
    have := bin_lt (gRow (argImg A (Fin.ofNat 32 b')) y x) (gCol (argImg A (Fin.ofNat 32 b')) y x)
    unfold pixelTerm seg binAt
    refine if_neg ?_
    subst hn
    generalize bin _ _ = u at *
    omega

/-- THE HISTOGRAMS of the reference. -/
theorem refHist_at (b : Fin 32) (R C : Fin 64) (o : Fin 9) :
    val_main_v56 (F := Ideal) A (ix4 b R C o) = rHist (argImg A b) o R C := by
  pointwise [val_main_v56, val_main_v55, val_main_cst_12, val_main_v54]
  rw [word_64, scatter_at, cell_eq A b R C o _ (by dsimp only; omega)]
  rfl

end Cert.Proof.Hog

end
-- ==== Proof.Reference.lean ====
/- The reference's result, index by index: the histograms of the 3 by 3 cells of a block over the block's norm. -/
module

public import Idealize.ShloMosaic.Lib.Pointwise
public import proofs.«01_k».proof.Proof.Scatter

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Proof.Hog

variable (A : FVec Ideal S32x1x512x512 .f32)

theorem hist_val (b : Fin 32) (R C : Fin 64) (o : Fin 9) {p q : ℕ} (hp : R.val = p) (hq : C.val = q) :
    val_main_v56 (F := Ideal) A (ix4 b R C o) = rHist (argImg A b) o p q := by
  subst hp hq; exact refHist_at A b R C o

/-- One of three joined parts. -/
theorem part3 (k : Fin 3) (a0 a1 a2 v : EReal) (h0 : k.val = 0 → a0 = v) (h1 : k.val = 1 → a1 = v) (h2 : k.val = 2 → a2 = v) :
    (if _h : k.val < 1 then a0 else if _h : k.val - 1 < 1 then a1 else a2) = v := by
  split
  · exact h0 (by omega)
  · split
    · exact h1 (by omega)
    · exact h2 (by omega)

theorem line0_at (b : Fin 32) (r c : Fin 62) (j : Fin 3) (o : Fin 9) :
    val_main_v63 (F := Ideal) A (ix5 b r c j o) = rHist (argImg A b) o r (c + j) := by
  pointwise [val_main_v63, val_main_v60, val_main_v61, val_main_v62, val_main_v57, val_main_v58, val_main_v59]
  refine part3 j _ _ _ _ (fun h => ?_) (fun h => ?_) (fun h => ?_) <;>
    exact hist_val A _ _ _ _ (by first | rfl | (dsimp only; omega)) (by first | rfl | (dsimp only; omega))

theorem line1_at (b : Fin 32) (r c : Fin 62) (j : Fin 3) (o : Fin 9) :
    val_main_v70 (F := Ideal) A (ix5 b r c j o) = rHist (argImg A b) o (r + 1) (c + j) := by
  pointwise [val_main_v70, val_main_v67, val_main_v68, val_main_v69, val_main_v64, val_main_v65, val_main_v66]
  refine part3 j _ _ _ _ (fun h => ?_) (fun h => ?_) (fun h => ?_) <;>
    exact hist_val A _ _ _ _ (by first | rfl | (dsimp only; omega)) (by first | rfl | (dsimp only; omega))

theorem line2_at (b : Fin 32) (r c : Fin 62) (j : Fin 3) (o : Fin 9) :
    val_main_v77 (F := Ideal) A (ix5 b r c j o) = rHist (argImg A b) o (r + 2) (c + j) := by
  pointwise [val_main_v77, val_main_v74, val_main_v75, val_main_v76, val_main_v71, val_main_v72, val_main_v73]
  refine part3 j _ _ _ _ (fun h => ?_) (fun h => ?_) (fun h => ?_) <;>
    exact hist_val A _ _ _ _ (by first | rfl | (dsimp only; omega)) (by first | rfl | (dsimp only; omega))

theorem stack_at (b : Fin 32) (r c : Fin 62) (i j : Fin 3) (o : Fin 9) :
    val_main_v81 (F := Ideal) A (ix6 b r c i j o) = rHist (argImg A b) o (r + i) (c + j) := by
  pointwise [val_main_v81, val_main_v78, val_main_v79, val_main_v80]
  refine part3 i _ _ _ _ (fun h => ?_) (fun h => ?_) (fun h => ?_)
  · rw [line0_at, h, Nat.add_zero]
  · rw [line1_at, h]
  · rw [line2_at, h]

/-- A sum over axes at an element. -/
theorem reduceAdd_at {s t : Shape} {axes : List (Fin s.rank)} (x : FVec Ideal s .f32) (init : FVec Ideal S_ .f32)
    (h : s.ReducesTo axes t) (h0 : 0 < S_.numel) (j : t.Idx) :
    Host.reduceAdd x init h h0 j = init ix0 + ∑ i, if h.drop i = j then x i else 0 := by
  show init _ + ∑ i ∈ Finset.univ.filter (fun i => h.drop i = j), x i = _
  rw [Finset.sum_filter]
  exact congrArg (fun k => init k + _) (funext fun a => a.elim0)

theorem drop_iff (b b' : Fin 32) (r r' c c' : Fin 62) (i j : Fin 3) (o : Fin 9) :
    (reducesTo_S32x62x62x3x3x9_S32x62x62_d3_4_5).drop (ix6 b r c i j o) = ix3 b' r' c' ↔ b = b' ∧ r = r' ∧ c = c' := by
  have : (reducesTo_S32x62x62x3x3x9_S32x62x62_d3_4_5).drop (ix6 b r c i j o) = ix3 b r c := by
    funext a
    match a with
    | ⟨0, _⟩ => rfl
    | ⟨1, _⟩ => rfl
    | ⟨2, _⟩ => rfl
  rw [this, ix3_inj]

theorem norm_at (b : Fin 32) (r c : Fin 62) :
    val_main_v83 (F := Ideal) A (ix3 b r c) = blockSq (rHist (argImg A b)) r c := by
  have h0 : val_main_cst_13 (F := Ideal) ix0 = (0 : EReal) := by pointwise [val_main_cst_13]
  have h1 : ∀ i j o, val_main_v82 (F := Ideal) A (ix6 b r c i j o)
      = rHist (argImg A b) o (r + i) (c + j) * rHist (argImg A b) o (r + i) (c + j) := by
    intro i j o
    pointwise [val_main_v82]
    rw [stack_at]
  unfold val_main_v83
  rw [reduceAdd_at, h0, zero_add, sum_idx6]
  simp only [drop_iff]
  rw [Finset.sum_eq_single b]
  · rw [Finset.sum_eq_single r]
    · rw [Finset.sum_eq_single c]
      · simp only [and_self, if_true, h1]; rfl
      · intro c' _ h
        refine Finset.sum_eq_zero fun i _ => Finset.sum_eq_zero fun j _ => Finset.sum_eq_zero fun o _ => if_neg fun e => h e.2.2
      · intro h; exact absurd (Finset.mem_univ _) h
    · intro r' _ h
      refine Finset.sum_eq_zero fun c' _ => Finset.sum_eq_zero fun i _ => Finset.sum_eq_zero fun j _ => Finset.sum_eq_zero fun o _ =>
        if_neg fun e => h e.2.1
    · intro h; exact absurd (Finset.mem_univ _) h
  · intro b' _ h
    refine Finset.sum_eq_zero fun r' _ => Finset.sum_eq_zero fun c' _ => Finset.sum_eq_zero fun i _ => Finset.sum_eq_zero fun j _ =>
      Finset.sum_eq_zero fun o _ => if_neg fun e => h e.1
  · intro h; exact absurd (Finset.mem_univ _) h

/-- THE RESULT of the reference. -/
theorem result_at (b : Fin 32) (r c : Fin 62) (q : Fin 81) :
    val_main_v90 (F := Ideal) A (ix4 b r c q) = rOut (argImg A b) r c q := by
  pointwise [val_main_v90, val_main_v89, val_main_v88, val_main_v87, val_main_v86, val_main_v85, val_main_v84, val_main_cst_14]
  rw [stack_at, norm_at]; rfl

/-- The two results are one. -/
theorem result_eq : val_main_v90 (F := Ideal) A = kernelResult A := by
  funext i
  rw [eq_ix4 i]
  exact (result_at A _ _ _ _).trans (kOut_eq_rOut _ _ _ _ (i 3).isLt).symm

end Cert.Proof.Hog

end
-- ==== Proof.Equation.lean ====
/- The value claim: the kernel's result is the reference's. -/
module

public import Idealize.ShloMosaic.Lib.Claim
public import proofs.«01_k».proof.Defs
public import proofs.«01_k».proof.Proof.Reference

@[expose] public section

set_option maxRecDepth 16384

noncomputable section

open Idealize.ShloMosaic Idealize.ShloMosaic.TcCoe Idealize.SL.Sem

namespace Cert.Proof.Hog

theorem algebraic : Cert.algebraic_KernelIdeal_ReferenceIdeal := by
  intro m ρ m' ρ' _ hagree
  refine ⟨_, (θ_run Cert.KernelIdeal.defs _ _).mono (fun _ h c => ⟨(h c).1.trans (final m c), (h c).2⟩)
    (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v90_eq (F := Ideal) (StableHlo.launchContents m' c)).trans ?_
  rw [StableHlo.launchContents_devRef, hagree c]
  exact result_eq _

end Cert.Proof.Hog

end
-- ==== Proof.lean ====
module

public import proofs.«01_k».proof.Defs
public import proofs.«01_k».proof.Proof.Safety
public import proofs.«01_k».proof.Proof.Equation
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Hog.frame_kernel, Hog.frame_ideal, Hog.frame_reference, Hog.preserves, Hog.algebraic⟩

end Cert.Proof

end
